-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "q_scale" .f32 0x3E38AA3B#32 (((Real.log 2)⁻¹ * (1 / 8) : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)) (v4 : (c : Dev Cert.Kernel2Ideal.nD) → Buf (Elt Ideal) ((c.tc : Thread Cert.Kernel2Ideal.nD Cert.Kernel2Ideal.τ).loc Cert.Kernel2Ideal.main_v41_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_v41_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v117) = v0 c
          ∧ r.2.mem ((c.tc : Thread Cert.Reference2Ideal.nD Cert.Reference2Ideal.τ).loc Cert.Reference2Ideal.main_v115) = v1 c
          ∧ r.2.mem ((c.tc : Thread Cert.Reference2Ideal.nD Cert.Reference2Ideal.τ).loc Cert.Reference2Ideal.main_v118) = v2 c
          ∧ r.2.mem ((c.tc : Thread Cert.Reference2Ideal.nD Cert.Reference2Ideal.τ).loc Cert.Reference2Ideal.main_v116) = v3 c
          ∧ r.2.mem ((c.tc : Thread Cert.Reference2Ideal.nD Cert.Reference2Ideal.τ).loc Cert.Reference2Ideal.main_v119) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v102) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S2x8192x8x2x64 : Shape := ⟨5, ![2, 8192, 8, 2, 64]⟩
abbrev S2x8192x8x128 : Shape := ⟨4, ![2, 8192, 8, 128]⟩
abbrev S64 : Shape := ⟨1, ![64]⟩
abbrev S_ : Shape := ⟨0, ![]⟩

class Facts : Prop where
  bcast_S_S2x8192x8x2x64 : S_.BroadcastsInDim S2x8192x8x2x64 (![] : Fin 0 → Fin S2x8192x8x2x64.rank)
  bcast_S_S2x8192x8x128 : S_.BroadcastsInDim S2x8192x8x128 (![] : Fin 0 → Fin S2x8192x8x128.rank)
  bcast_S_S64 : S_.BroadcastsInDim S64 (![] : Fin 0 → Fin S64.rank)

variable [Facts]

def fn_part1 {F : FTy → Type} [FloatOps F] (main_arg6 : FVec F S64 .f32) (main_v2 : IVec S2x8192x8x2x64 1) (main_v5 : IVec S2x8192x8x2x64 1) (main_v8 : IVec S2x8192x8x128 1) (main_v11 : IVec S64 1) (main_v14 : IVec S64 1) (main_v17 : IVec S64 1) : IVec S2x8192x8x2x64 1 × IVec S2x8192x8x2x64 1 × IVec S2x8192x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S2x8192x8x2x64 .f32) (main_arg1 : FVec F S2x8192x8x2x64 .f32) (main_arg2 : FVec F S2x8192x8x128 .f32) (main_arg3 : FVec F S64 .f32) (main_arg4 : FVec F S64 .f32) (main_arg5 : FVec F S64 .f32) (main_arg6 : FVec F S64 .f32) : IVec S2x8192x8x2x64 1 × IVec S2x8192x8x2x64 1 × IVec S2x8192x8x128 1 × IVec S64 1 × IVec S64 1 × IVec S64 1 × IVec S64 1 :=
  let main_v0 : FVec F S2x8192x8x2x64 .f32 := Host.absf main_arg0
  let main_cst : FVec F S_ .f32 := constant S_ .f32 0x7F800000#32
  let main_v1 : FVec F S2x8192x8x2x64 .f32 := broadcastInDim S2x8192x8x2x64 ![] bcast_S_S2x8192x8x2x64 main_cst
  let main_v2 : IVec S2x8192x8x2x64 1 := cmpf .olt main_v0 main_v1
  let main_v3 : FVec F S2x8192x8x2x64 .f32 := Host.absf main_arg1
  let main_cst_0 : FVec F S_ .f32 := constant S_ .f32 0x7F800000#32
  let main_v4 : FVec F S2x8192x8x2x64 .f32 := broadcastInDim S2x8192x8x2x64 ![] bcast_S_S2x8192x8x2x64 main_cst_0
  let main_v5 : IVec S2x8192x8x2x64 1 := cmpf .olt main_v3 main_v4
  let main_v6 : FVec F S2x8192x8x128 .f32 := Host.absf main_arg2
  let main_cst_1 : FVec F S_ .f32 := constant S_ .f32 0x7F800000#32
  let main_v7 : FVec F S2x8192x8x128 .f32 := broadcastInDim S2x8192x8x128 ![] bcast_S_S2x8192x8x128 main_cst_1
  let main_v8 : IVec S2x8192x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_finite2.lean ====
abbrev S2x8192x1024 : Shape := ⟨3, ![2, 8192, 1024]⟩
abbrev S2x1024 : Shape := ⟨2, ![2, 1024]⟩
abbrev S1024 : Shape := ⟨1, ![1024]⟩
abbrev S1024x8208 : Shape := ⟨2, ![1024, 8208]⟩
abbrev S2x64 : Shape := ⟨2, ![2, 64]⟩
abbrev S_ : Shape := ⟨0, ![]⟩

class Facts : Prop where
  bcast_S_S2x1024 : S_.BroadcastsInDim S2x1024 (![] : Fin 0 → Fin S2x1024.rank)
  bcast_S_S1024 : S_.BroadcastsInDim S1024 (![] : Fin 0 → Fin S1024.rank)
  bcast_S_S1024x8208 : S_.BroadcastsInDim S1024x8208 (![] : Fin 0 → Fin S1024x8208.rank)

variable [Facts]

def fn {F : FTy → Type} [FloatOps F] (main_arg0 : FVec F S2x8192x1024 .f32) (main_arg1 : FVec F S2x1024 .f32) (main_arg2 : FVec F S2x1024 .f32) (main_arg3 : FVec F S1024 .f32) (main_arg4 : FVec F S1024x8208 .f32) (main_arg5 : FVec F S2x64 .f32) (main_arg6 : FVec F S2x64 .f32) : IVec S2x1024 1 × IVec S2x1024 1 × IVec S1024 1 × IVec S1024x8208 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024 .f32 := Host.absf main_arg2
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x8208 .f32 := Host.absf main_arg4
  let main_cst_2 : FVec F S_ .f32 := constant S_ .f32 0x7F800000#32
  let main_v10 : FVec F S1024x8208 .f32 := broadcastInDim S1024x8208 ![] bcast_S_S1024x8208 main_cst_2
  let main_v11 : IVec S1024x8208 1 := cmpf .olt main_v9 main_v10
  (main_v2, main_v5, main_v8, main_v11)
-- ==== Kernel.lean ====
abbrev S2x8192x8x2x64 : Shape := ⟨5, ![2, 8192, 8, 2, 64]⟩
abbrev S2x8192x8x128 : Shape := ⟨4, ![2, 8192, 8, 128]⟩
abbrev S64 : Shape := ⟨1, ![64]⟩
abbrev S_ : Shape := ⟨0, ![]⟩
abbrev S1x1 : Shape := ⟨2, ![1, 1]⟩
abbrev S2x8192x1024 : Shape := ⟨3, ![2, 8192, 1024]⟩
abbrev S1x1024x128 : Shape := ⟨3, ![1, 1024, 128]⟩
abbrev S1x8192x128 : Shape := ⟨3, ![1, 8192, 128]⟩
abbrev S8x128x1024 : Shape := ⟨3, ![8, 128, 1024]⟩
abbrev S1024x128 : Shape := ⟨2, ![1024, 128]⟩
abbrev S128x1024 : Shape := ⟨2, ![128, 1024]⟩
abbrev S1x128x1024 : Shape := ⟨3, ![1, 128, 1024]⟩
abbrev S2048x128 : Shape := ⟨2, ![2048, 128]⟩
abbrev S1x2048 : Shape := ⟨2, ![1, 2048]⟩
abbrev S128x2048 : Shape := ⟨2, ![128, 2048]⟩
abbrev S1024x2048 : Shape := ⟨2, ![1024, 2048]⟩
abbrev S2048 : Shape := ⟨1, ![2048]⟩

abbrev nBuf : Space → Nat
  | .hbm => 32
  | .vmem => 9
  | .smem => 1
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .bf16⟩
  | .hbm, ⟨27, _⟩ => ⟨S2x8192x1024, .f32⟩
  | .hbm, ⟨28, _⟩ => ⟨S2x8192x1024, .bf16⟩
  | .hbm, ⟨29, _⟩ => ⟨S2x8192x1024, .f32⟩
  | .hbm, ⟨30, _⟩ => ⟨S2x8192x1024, .bf16⟩
  | .hbm, ⟨31, _⟩ => ⟨S2x8192x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .f32⟩
  | .local _ .vmem, ⟨7, _⟩ => ⟨S1x1024x128, .f32⟩
  | .local _ .vmem, ⟨8, _⟩ => ⟨S8x128x1024, .bf16⟩
  | .local _ .smem, ⟨0, _⟩ => ⟨S1x1, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_48 : BitVec 32 := 0#32
  let c8_i32 : BitVec 32 := 8#32
  let v135 : BitVec 32 := Scalar.addi c0_i32_48 c8_i32
  let c1_i32_49 : BitVec 32 := 1#32
  ⟨c0_i32_48, v135, c1_i32_49⟩
def k0_off1 (k0_t1 : Fin k0_t1_loop.trips) : Fin 3 → Nat :=
  let c0_52 : Index := 0#32
  let c0_i32_48 : BitVec 32 := 0#32
  let c1_i32_49 : BitVec 32 := 1#32
  let arg9 : BitVec 32 := Scf.iv c0_i32_48 c1_i32_49 k0_t1
  let c1024_i32_51 : BitVec 32 := 1024#32
  let v136 : BitVec 32 := Scalar.muli arg9 c1024_i32_51
  let v137 : Index := Scalar.indexCast v136
  let c0_53 : Index := 0#32
  ![0, v137.toNat, 0]
def k0_off2 (k0_t1 : Fin k0_t1_loop.trips) : Fin 3 → Nat :=
  let c0_i32_48 : BitVec 32 := 0#32
  let c1_i32_49 : BitVec 32 := 1#32
  let arg9 : BitVec 32 := Scf.iv c0_i32_48 c1_i32_49 k0_t1
  let v143 : Index := Scalar.indexCast arg9
  let c0_54 : Index := 0#32
  let c0_55 : Index := 0#32
  ![v143.toNat, 0, 0]
@[reducible] def k0_t2_loop (i : grid0.Coords) : Scf.Loop 32 :=
  let c0_i32_7 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32_7
  let c1_i32_8 : BitVec 32 := 1#32
  let v20 : BitVec 32 := Scalar.divsi v18 c1_i32_8
  let v21 : BitVec 32 := Scalar.muli v20 c1_i32_8
  let v22 : BitVec 32 := Scalar.addi c0_i32_7 v21
  let c1_i32_9 : BitVec 32 := 1#32
  ⟨c0_i32_7, v22, c1_i32_9⟩
def k0_off3 (i : grid0.Coords) (k0_t2 : Fin (k0_t2_loop i).trips) : Fin 3 → Nat :=
  let c0_49 : Index := 0#32
  let c0_i32_7 : BitVec 32 := 0#32
  let c1_i32_9 : BitVec 32 := 1#32
  let arg9 : BitVec 32 := Scf.iv c0_i32_7 c1_i32_9 k0_t2
  let c1024_i32_48 : BitVec 32 := 1024#32
  let v135 : BitVec 32 := Scalar.muli arg9 c1024_i32_48
  let v136 : Index := Scalar.indexCast v135
  let c0_50 : Index := 0#32
  ![0, v136.toNat, 0]
def k0_off4 (i : grid0.Coords) (k0_t2 : Fin (k0_t2_loop i).trips) : Fin 3 → Nat :=
  let c0_i32_7 : BitVec 32 := 0#32
  let c1_i32_9 : BitVec 32 := 1#32
  let arg9 : BitVec 32 := Scf.iv c0_i32_7 c1_i32_9 k0_t2
  let v154 : Index := Scalar.indexCast arg9
  let c0_54 : Index := 0#32
  let c0_55 : Index := 0#32
  ![v154.toNat, 0, 0]
@[reducible] def k0_t3_loop (i : grid0.Coords) : Scf.Loop 32 :=
  let c0_i32_7 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32_7
  let c1_i32_8 : BitVec 32 := 1#32
  let v20 : BitVec 32 := Scalar.divsi v18 c1_i32_8
  let v21 : BitVec 32 := Scalar.muli v20 c1_i32_8
  let v22 : BitVec 32 := Scalar.addi c0_i32_7 v21
  let v19 : BitVec 32 := Scalar.addi c0_i32_7 v18
  let c1_i32_10 : BitVec 32 := 1#32
  ⟨v22, v19, c1_i32_10⟩
def k0_off5 (i : grid0.Coords) (k0_t3 : Fin (k0_t3_loop i).trips) : Fin 3 → Nat :=
  let c0_49 : Index := 0#32
  let c0_i32_7 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32_7
  let c1_i32_8 : BitVec 32 := 1#32
  let v20 : BitVec 32 := Scalar.divsi v18 c1_i32_8
  let v21 : BitVec 32 := Scalar.muli v20 c1_i32_8
  let v22 : BitVec 32 := Scalar.addi c0_i32_7 v21
  let c1_i32_10 : BitVec 32 := 1#32
  let arg9 : BitVec 32 := Scf.iv v22 c1_i32_10 k0_t3
  let c1024_i32_48 : BitVec 32 := 1024#32
  let v135 : BitVec 32 := Scalar.muli arg9 c1024_i32_48
  let v136 : Index := Scalar.indexCast v135
  let c0_50 : Index := 0#32
  ![0, v136.toNat, 0]
def k0_off6 (i : grid0.Coords) (k0_t3 : Fin (k0_t3_loop i).trips) : Fin 3 → Nat :=
  let c0_i32_7 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32_7
  let c1_i32_8 : BitVec 32 := 1#32
  let v20 : BitVec 32 := Scalar.divsi v18 c1_i32_8
  let v21 : BitVec 32 := Scalar.muli v20 c1_i32_8
  let v22 : BitVec 32 := Scalar.addi c0_i32_7 v21
  let c1_i32_10 : BitVec 32 := 1#32
  let arg9 : BitVec 32 := Scf.iv v22 c1_i32_10 k0_t3
  let v154 : Index := Scalar.indexCast arg9
  let c0_54 : Index := 0#32
  let c0_55 : Index := 0#32
  ![v154.toNat, 0, 0]
def k0_off7 (i : grid0.Coords) : Fin 3 → Nat :=
  let c0_13 : Index := 0#32
  let arg2 : BitVec 32 := BitVec.ofNat 32 (i 2).val
  let c1_i32_11 : BitVec 32 := 1#32
  let v25 : BitVec 32 := Scalar.muli arg2 c1_i32_11
  let c0_i32_12 : BitVec 32 := 0#32
  let v26 : BitVec 32 := Scalar.addi v25 c0_i32_12
  let c1024_i32 : BitVec 32 := 1024#32
  let v27 : BitVec 32 := Scalar.muli v26 c1024_i32
  let v28 : Index := Scalar.indexCast v27
  let c0_14 : Index := 0#32
  ![0, v28.toNat, 0]
def k0_off8 (i : grid0.Coords) : Fin 3 → Nat :=
  let arg2 : BitVec 32 := BitVec.ofNat 32 (i 2).val
  let c1_i32_11 : BitVec 32 := 1#32
  let v25 : BitVec 32 := Scalar.muli arg2 c1_i32_11
  let c0_i32_12 : BitVec 32 := 0#32
  let v26 : BitVec 32 := Scalar.addi v25 c0_i32_12
  let v117 : Index := Scalar.indexCast v26
  let c0_40 : Index := 0#32
  let c0_41 : Index := 0#32
  ![v117.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x2x64 : Shape := ⟨5, ![2, 8192, 8, 2, 64]⟩
abbrev S2x8192x8x128 : Shape := ⟨4, ![2, 8192, 8, 128]⟩
abbrev S64 : Shape := ⟨1, ![64]⟩
abbrev S_ : Shape := ⟨0, ![]⟩
abbrev S2x8192x8x1x64 : Shape := ⟨5, ![2, 8192, 8, 1, 64]⟩
abbrev S2x8192x8x64 : Shape := ⟨4, ![2, 8192, 8, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x8192x8x1x64, .f32⟩
  | .hbm, ⟨19, _⟩ => ⟨S2x8192x8x64, .f32⟩
  | .hbm, ⟨20, _⟩ => ⟨S2x8192x8x1x64, .f32⟩
  | .hbm, ⟨21, _⟩ => ⟨S2x8192x8x64, .f32⟩
  | .hbm, ⟨22, _⟩ => ⟨S2x8192x8x1x64, .f32⟩
  | .hbm, ⟨23, _⟩ => ⟨S2x8192x8x64, .f32⟩
  | .hbm, ⟨24, _⟩ => ⟨S2x8192x8x1x64, .f32⟩
  | .hbm, ⟨25, _⟩ => ⟨S2x8192x8x64, .f32⟩
  | .hbm, ⟨26, _⟩ => ⟨S8192, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S2x8x8192x8192, .f32⟩
  | .hbm, ⟨51, _⟩ => ⟨S_, .f32⟩
  | .hbm, ⟨52, _⟩ => ⟨S2x8x8192x8192, .f32⟩
  | .hbm, ⟨53, _⟩ => ⟨S2x8x8192x8192, .f32⟩
  | .hbm, ⟨54, _⟩ => ⟨S_, .f32⟩
  | .hbm, ⟨55, _⟩ => ⟨S_, .f32⟩
  | .hbm, ⟨56, _⟩ => ⟨S2x8x8192x8192, .i1⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S_, .f32⟩
  | .hbm, ⟨61, _⟩ => ⟨S2x8x8192x8192, .f32⟩
  | .hbm, ⟨62, _⟩ => ⟨S2x8x8192x8192, .f32⟩
  | .hbm, ⟨63, _⟩ => ⟨S_, .f32⟩
  | .hbm, ⟨64, _⟩ => ⟨S_, .f32⟩
  | .hbm, ⟨65, _⟩ => ⟨S2x8x8192x8192, .i1⟩
  | .hbm, ⟨66, _⟩ => ⟨S2x8x8192x8192, .f32⟩
  | .hbm, ⟨67, _⟩ => ⟨S2x8x8192x8192, .f32⟩
  | .hbm, ⟨68, _⟩ => ⟨S_, .f32⟩
  | .hbm, ⟨69, _⟩ => ⟨S2x8x8192, .f32⟩
  | .hbm, ⟨70, _⟩ => ⟨S_, .f32⟩
  | .hbm, ⟨71, _⟩ => ⟨S2x8x8192, .f32⟩
  | .hbm, ⟨72, _⟩ => ⟨S2x8x8192, .f32⟩
  | .hbm, ⟨73, _⟩ => ⟨S2x8x8192x1, .f32⟩
  | .hbm, ⟨74, _⟩ => ⟨S2x8x8192x8192, .f32⟩
  | .hbm, ⟨75, _⟩ => ⟨S2x8x8192x8192, .f32⟩
  | .hbm, ⟨76, _⟩ => ⟨S2x8x8192x8192, .f32⟩
  | .hbm, ⟨77, _⟩ => ⟨S_, .f32⟩
  | .hbm, ⟨78, _⟩ => ⟨S2x8x8192, .f32⟩
  | .hbm, ⟨79, _⟩ => ⟨S2x8x8192x1, .f32⟩
  | .hbm, ⟨80, _⟩ => ⟨S2x8x8192x8192, .f32⟩
  | .hbm, ⟨81, _⟩ => ⟨S2x8x8192x8192, .f32⟩
  | .hbm, ⟨82, _⟩ => ⟨S_, .f32⟩
  | .hbm, ⟨83, _⟩ => ⟨S2x8x8192, .f32⟩
  | .hbm, ⟨84, _⟩ => ⟨S_, .f32⟩
  | .hbm, ⟨85, _⟩ => ⟨S2x8x8192, .f32⟩
  | .hbm, ⟨86, _⟩ => ⟨S2x8x8192, .f32⟩
  | .hbm, ⟨87, _⟩ => ⟨S2x8x8192x1, .f32⟩
  | .hbm, ⟨88, _⟩ => ⟨S2x8x8192x8192, .f32⟩
  | .hbm, ⟨89, _⟩ => ⟨S2x8x8192x8192, .f32⟩
  | .hbm, ⟨90, _⟩ => ⟨S2x8x8192x8192, .f32⟩
  | .hbm, ⟨91, _⟩ => ⟨S_, .f32⟩
  | .hbm, ⟨92, _⟩ => ⟨S2x8x8192, .f32⟩
  | .hbm, ⟨93, _⟩ => ⟨S2x8x8192x1, .f32⟩
  | .hbm, ⟨94, _⟩ => ⟨S2x8x8192x8192, .f32⟩
  | .hbm, ⟨95, _⟩ => ⟨S2x8x8192x8192, .f32⟩
  | .hbm, ⟨96, _⟩ => ⟨S2x8x8192x8192, .f32⟩
  | .hbm, ⟨97, _⟩ => ⟨S2x8x8192x8192, .f32⟩
  | .hbm, ⟨98, _⟩ => ⟨S2x8x8192x8192, .f32⟩
  | .hbm, ⟨99, _⟩ => ⟨S2x8x128x8192, .f32⟩
  | .hbm, ⟨100, _⟩ => ⟨S2x8192x8x128, .f32⟩
  | .hbm, ⟨101, _⟩ => ⟨S2x8192x1024, .f32⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v30 : Ref sig .tc := ⟨.hbm, 67, rfl⟩
abbrev main_cst_6 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_9 : Ref sig .tc := ⟨.hbm, 82, rfl⟩
abbrev main_v42 : Ref sig .tc := ⟨.hbm, 83, rfl⟩
abbrev main_cst_10 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_11 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S1024 : Shape := ⟨1, ![1024]⟩
abbrev S1024x8208 : Shape := ⟨2, ![1024, 8208]⟩
abbrev S2x64 : Shape := ⟨2, ![2, 64]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S16384x1024 : Shape := ⟨2, ![16384, 1024]⟩
abbrev S2x1x1024 : Shape := ⟨3, ![2, 1, 1024]⟩
abbrev S1x1024 : Shape := ⟨2, ![1, 1024]⟩
abbrev S1024x3072 : Shape := ⟨2, ![1024, 3072]⟩
abbrev S8x128 : Shape := ⟨2, ![8, 128]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S512x3072 : Shape := ⟨2, ![512, 3072]⟩

abbrev nBuf : Space → Nat
  | .hbm => 90
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x8208, .f32⟩
  | .hbm, ⟨5, _⟩ => ⟨S2x64, .f32⟩
  | .hbm, ⟨6, _⟩ => ⟨S2x64, .f32⟩
  | .hbm, ⟨7, _⟩ => ⟨S128, .i32⟩
  | .hbm, ⟨8, _⟩ => ⟨S128x1, .i32⟩
  | .hbm, ⟨9, _⟩ => ⟨S_, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i1⟩
  | .hbm, ⟨17, _⟩ => ⟨S128x1, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i1⟩
  | .hbm, ⟨22, _⟩ => ⟨S128x1, .i1⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S128x1, .i32⟩
  | .hbm, ⟨27, _⟩ => ⟨S1x128, .i32⟩
  | .hbm, ⟨28, _⟩ => ⟨S_, .i32⟩
  | .hbm, ⟨29, _⟩ => ⟨S_, .i32⟩
  | .hbm, ⟨30, _⟩ => ⟨S1x128, .i32⟩
  | .hbm, ⟨31, _⟩ => ⟨S1x128, .i32⟩
  | .hbm, ⟨32, _⟩ => ⟨S1x128, .i32⟩
  | .hbm, ⟨33, _⟩ => ⟨S_, .i32⟩
  | .hbm, ⟨34, _⟩ => ⟨S1x128, .i32⟩
  | .hbm, ⟨35, _⟩ => ⟨S1x128, .i1⟩
  | .hbm, ⟨36, _⟩ => ⟨S1x128, .i32⟩
  | .hbm, ⟨37, _⟩ => ⟨S1x128, .i32⟩
  | .hbm, ⟨38, _⟩ => ⟨S_, .i32⟩
  | .hbm, ⟨39, _⟩ => ⟨S1x128, .i32⟩
  | .hbm, ⟨40, _⟩ => ⟨S1x128, .i1⟩
  | .hbm, ⟨41, _⟩ => ⟨S1x128, .i1⟩
  | .hbm, ⟨42, _⟩ => ⟨S_, .i32⟩
  | .hbm, ⟨43, _⟩ => ⟨S1x128, .i32⟩
  | .hbm, ⟨44, _⟩ => ⟨S1x128, .i32⟩
  | .hbm, ⟨45, _⟩ => ⟨S1x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S128x128, .bf16⟩
  | .hbm, ⟨50, _⟩ => ⟨S8192, .i32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S8192, .f32⟩
  | .hbm, ⟨60, _⟩ => ⟨S8192x1, .f32⟩
  | .hbm, ⟨61, _⟩ => ⟨S1x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S1x8192x1x32, .f32⟩
  | .hbm, ⟨68, _⟩ => ⟨S1x8192x4x32, .f32⟩
  | .hbm, ⟨69, _⟩ => ⟨S8192x128, .f32⟩
  | .hbm, ⟨70, _⟩ => ⟨S8192x32, .f32⟩
  | .hbm, ⟨71, _⟩ => ⟨S8192x64, .f32⟩
  | .hbm, ⟨72, _⟩ => ⟨S1x8192x1x64, .f32⟩
  | .hbm, ⟨73, _⟩ => ⟨S1x8192x2x64, .f32⟩
  | .hbm, ⟨74, _⟩ => ⟨S8192x128, .f32⟩
  | .hbm, ⟨75, _⟩ => ⟨S16384x1024, .f32⟩
  | .hbm, ⟨76, _⟩ => ⟨S2x1x1024, .f32⟩
  | .hbm, ⟨77, _⟩ => ⟨S2x1x1024, .f32⟩
  | .hbm, ⟨78, _⟩ => ⟨S1x1024, .f32⟩
  | .hbm, ⟨79, _⟩ => ⟨S1024x3072, .f32⟩
  | .hbm, ⟨80, _⟩ => ⟨S1024x3072, .bf16⟩
  | .hbm, ⟨81, _⟩ => ⟨S1x128, .f32⟩
  | .hbm, ⟨82, _⟩ => ⟨S1x128, .f32⟩
  | .hbm, ⟨83, _⟩ => ⟨S_, .i32⟩
  | .hbm, ⟨84, _⟩ => ⟨S8x128, .i32⟩
  | .hbm, ⟨85, _⟩ => ⟨S16384x1024, .bf16⟩
  | .hbm, ⟨86, _⟩ => ⟨S16384x1024, .f32⟩
  | .hbm, ⟨87, _⟩ => ⟨S16384x1024, .bf16⟩
  | .hbm, ⟨88, _⟩ => ⟨S16384x1024, .f32⟩
  | .hbm, ⟨89, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S128x128, .bf16⟩
  | .local _ .vmem, ⟨15, _⟩ => ⟨S8x128, .i32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_2 : Ref sig .tc := ⟨.hbm, 83, rfl⟩
abbrev main_v40 : Ref sig .tc := ⟨.hbm, 84, rfl⟩
abbrev main_v41_0 : Ref sig .tc := ⟨.hbm, 85, rfl⟩
abbrev main_v41_1 : Ref sig .tc := ⟨.hbm, 86, rfl⟩
abbrev main_v41_2 : Ref sig .tc := ⟨.hbm, 87, rfl⟩
abbrev main_v41_3 : Ref sig .tc := ⟨.hbm, 88, rfl⟩
abbrev main_v41_4 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "q_scale" => some (((Real.log 2)⁻¹ * (1 / 8) : ℝ) : EReal)
  | _ => none
-- ==== Reference2Ideal.lean ====
abbrev S2x8192x1024 : Shape := ⟨3, ![2, 8192, 1024]⟩
abbrev S2x1024 : Shape := ⟨2, ![2, 1024]⟩
abbrev S1024 : Shape := ⟨1, ![1024]⟩
abbrev S1024x8208 : Shape := ⟨2, ![1024, 8208]⟩
abbrev S2x64 : Shape := ⟨2, ![2, 64]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x8208 : Shape := ⟨3, ![2, 8192, 8208]⟩
abbrev S2x8192x8x2x64 : Shape := ⟨5, ![2, 8192, 8, 2, 64]⟩
abbrev S2x8192x8x2 : Shape := ⟨4, ![2, 8192, 8, 2]⟩
abbrev S2x8192x8x2x1 : Shape := ⟨5, ![2, 8192, 8, 2, 1]⟩
abbrev S1x1x1x2x64 : Shape := ⟨5, ![1, 1, 1, 2, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x1x32 : Shape := ⟨5, ![1, 8192, 1, 1, 32]⟩
abbrev S2x8192x8x2x32 : Shape := ⟨5, ![2, 8192, 8, 2, 32]⟩
abbrev S16384x1024 : Shape := ⟨2, ![16384, 1024]⟩

abbrev nBuf : Space → Nat
  | .hbm => 143
  | .vmem => 0
  | .smem => 0
  | _ => 0

abbrev hbmTy0_0 (i : Nat) : BufTy := match i % 128 with
  | 0 => ⟨S2x8192x1024, .f32⟩
  | 1 => ⟨S2x1024, .f32⟩
  | 2 => ⟨S2x1024, .f32⟩
  | 3 => ⟨S1024, .f32⟩
  | 4 => ⟨S1024x8208, .f32⟩
  | 5 => ⟨S2x64, .f32⟩
  | 6 => ⟨S2x64, .f32⟩
  | 7 => ⟨S8192, .i32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x1x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x1x1024, .f32⟩
  | 31 => ⟨S2x8192x1024, .f32⟩
  | 32 => ⟨S2x8192x1024, .f32⟩
  | 33 => ⟨S2x8192x8208, .f32⟩
  | 34 => ⟨S2x8192x1024, .f32⟩
  | 35 => ⟨S2x8192x1024, .f32⟩
  | 36 => ⟨S2x8192x1024, .f32⟩
  | 37 => ⟨S2x8192x8x2x64, .f32⟩
  | 38 => ⟨S2x8192x8x2x64, .f32⟩
  | 39 => ⟨S_, .f32⟩
  | 40 => ⟨S2x8192x8x2, .f32⟩
  | 41 => ⟨S2x8192x8x2x1, .f32⟩
  | 42 => ⟨S_, .f32⟩
  | 43 => ⟨S2x8192x8x2x1, .f32⟩
  | 44 => ⟨S2x8192x8x2x1, .f32⟩
  | 45 => ⟨S_, .f32⟩
  | 46 => ⟨S2x8192x8x2x1, .f32⟩
  | 47 => ⟨S2x8192x8x2x1, .f32⟩
  | 48 => ⟨S2x8192x8x2x1, .f32⟩
  | 49 => ⟨S2x8192x8x2x64, .f32⟩
  | 50 => ⟨S2x8192x8x2x64, .f32⟩
  | 51 => ⟨S1x1x1x2x64, .f32⟩
  | 52 => ⟨S2x8192x8x2x64, .f32⟩
  | 53 => ⟨S2x8192x8x2x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S8192, .f32⟩
  | 63 => ⟨S8192x1, .f32⟩
  | 64 => ⟨S1x32, .f32⟩
  | 65 => ⟨S8192x32, .f32⟩
  | 66 => ⟨S8192x32, .f32⟩
  | 67 => ⟨S8192x32, .f32⟩
  | 68 => ⟨S1x8192x1x1x32, .f32⟩
  | 69 => ⟨S1x8192x1x1x32, .f32⟩
  | 70 => ⟨S1x8192x1x1x32, .f32⟩
  | 71 => ⟨S2x8192x8x2x32, .f32⟩
  | 72 => ⟨S2x8192x8x2x32, .f32⟩
  | 73 => ⟨S2x8192x8x2x32, .f32⟩
  | 74 => ⟨S2x8192x8x2x32, .f32⟩
  | 75 => ⟨S2x8192x8x2x32, .f32⟩
  | 76 => ⟨S2x8192x8x2x32, .f32⟩
  | 77 => ⟨S2x8192x8x2x32, .f32⟩
  | 78 => ⟨S2x8192x8x2x32, .f32⟩
  | 79 => ⟨S2x8192x8x2x32, .f32⟩
  | 80 => ⟨S2x8192x8x2x32, .f32⟩
  | 81 => ⟨S2x8192x8x2x32, .f32⟩
  | 82 => ⟨S2x8192x8x2x32, .f32⟩
  | 83 => ⟨S2x8192x8x2x64, .f32⟩
  | 84 => ⟨S2x8192x8x2x64, .f32⟩
  | 85 => ⟨S2x8192x8x2x64, .f32⟩
  | 86 => ⟨S_, .f32⟩
  | 87 => ⟨S2x8192x8x2, .f32⟩
  | 88 => ⟨S2x8192x8x2x1, .f32⟩
  | 89 => ⟨S_, .f32⟩
  | 90 => ⟨S2x8192x8x2x1, .f32⟩
  | 91 => ⟨S2x8192x8x2x1, .f32⟩
  | 92 => ⟨S_, .f32⟩
  | 93 => ⟨S2x8192x8x2x1, .f32⟩
  | 94 => ⟨S2x8192x8x2x1, .f32⟩
  | 95 => ⟨S2x8192x8x2x1, .f32⟩
  | 96 => ⟨S2x8192x8x2x64, .f32⟩
  | 97 => ⟨S2x8192x8x2x64, .f32⟩
  | 98 => ⟨S1x1x1x2x64, .f32⟩
  | 99 => ⟨S2x8192x8x2x64, .f32⟩
  | 100 => ⟨S2x8192x8x2x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S8192, .f32⟩
  | 110 => ⟨S8192x1, .f32⟩
  | 111 => ⟨S1x32, .f32⟩
  | 112 => ⟨S8192x32, .f32⟩
  | 113 => ⟨S8192x32, .f32⟩
  | 114 => ⟨S8192x32, .f32⟩
  | 115 => ⟨S1x8192x1x1x32, .f32⟩
  | 116 => ⟨S1x8192x1x1x32, .f32⟩
  | 117 => ⟨S1x8192x1x1x32, .f32⟩
  | 118 => ⟨S2x8192x8x2x32, .f32⟩
  | 119 => ⟨S2x8192x8x2x32, .f32⟩
  | 120 => ⟨S2x8192x8x2x32, .f32⟩
  | 121 => ⟨S2x8192x8x2x32, .f32⟩
  | 122 => ⟨S2x8192x8x2x32, .f32⟩
  | 123 => ⟨S2x8192x8x2x32, .f32⟩
  | 124 => ⟨S2x8192x8x2x32, .f32⟩
  | 125 => ⟨S2x8192x8x2x32, .f32⟩
  | 126 => ⟨S2x8192x8x2x32, .f32⟩
  | 127 => ⟨S2x8192x8x2x32, .f32⟩
  | _ => ⟨S2x8192x1024, .f32⟩

abbrev hbmTy0_1 (i : Nat) : BufTy := match i % 128 with
  | 0 => ⟨S2x8192x8x2x32, .f32⟩
  | 1 => ⟨S2x8192x8x2x32, .f32⟩
  | 2 => ⟨S2x8192x8x2x64, .f32⟩
  | 3 => ⟨S_, .f32⟩
  | 4 => ⟨S_, .f32⟩
  | 5 => ⟨S_, .f32⟩
  | 6 => ⟨S_, .f32⟩
  | 7 => ⟨S2x8192x8x2x64, .f32⟩
  | 8 => ⟨S2x8192x8x2x64, .f32⟩
  | 9 => ⟨S16384x1024, .f32⟩
  | 10 => ⟨S16384x1024, .f32⟩
  | 11 => ⟨S16384x1024, .f32⟩
  | 12 => ⟨S16384x1024, .bf16⟩
  | 13 => ⟨S16384x1024, .bf16⟩
  | 14 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_13 : Ref sig .tc := ⟨.hbm, 131, rfl⟩
abbrev main_v110 : Ref sig .tc := ⟨.hbm, 132, rfl⟩
abbrev main_cst_14 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x4x256 : Shape := ⟨4, ![2, 8192, 4, 256]⟩
abbrev S2x8192x8x128 : Shape := ⟨4, ![2, 8192, 8, 128]⟩
abbrev S2x1024 : Shape := ⟨2, ![2, 1024]⟩
abbrev S1024 : Shape := ⟨1, ![1024]⟩
abbrev S256 : Shape := ⟨1, ![256]⟩
abbrev S128 : Shape := ⟨1, ![128]⟩
abbrev S1024x8208 : Shape := ⟨2, ![1024, 8208]⟩
abbrev S1024x1024 : Shape := ⟨2, ![1024, 1024]⟩
abbrev S16384x1024 : Shape := ⟨2, ![16384, 1024]⟩
abbrev S2x1x1024 : Shape := ⟨3, ![2, 1, 1024]⟩
abbrev S1x1024 : Shape := ⟨2, ![1, 1024]⟩
abbrev S1x256 : Shape := ⟨2, ![1, 256]⟩
abbrev S4x256 : Shape := ⟨2, ![4, 256]⟩
abbrev S1x128 : Shape := ⟨2, ![1, 128]⟩
abbrev S8x128 : Shape := ⟨2, ![8, 128]⟩
abbrev S1024x2048 : Shape := ⟨2, ![1024, 2048]⟩
abbrev S256x1024 : Shape := ⟨2, ![256, 1024]⟩
abbrev S1x1x1024 : Shape := ⟨3, ![1, 1, 1024]⟩
abbrev S256x1 : Shape := ⟨2, ![256, 1]⟩
abbrev S256x2048 : Shape := ⟨2, ![256, 2048]⟩
abbrev S256x256 : Shape := ⟨2, ![256, 256]⟩
abbrev S256x128 : Shape := ⟨2, ![256, 128]⟩

abbrev nBuf : Space → Nat
  | .hbm => 43
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x8192x4x256, .f32⟩
  | .hbm, ⟨2, _⟩ => ⟨S2x8192x1024, .f32⟩
  | .hbm, ⟨3, _⟩ => ⟨S2x8192x8x128, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S1024, .f32⟩
  | .hbm, ⟨10, _⟩ => ⟨S1024, .f32⟩
  | .hbm, ⟨11, _⟩ => ⟨S256, .f32⟩
  | .hbm, ⟨12, _⟩ => ⟨S128, .f32⟩
  | .hbm, ⟨13, _⟩ => ⟨S1024x8208, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S1x1024, .f32⟩
  | .hbm, ⟨27, _⟩ => ⟨S1x1024, .f32⟩
  | .hbm, ⟨28, _⟩ => ⟨S1x256, .f32⟩
  | .hbm, ⟨29, _⟩ => ⟨S4x256, .f32⟩
  | .hbm, ⟨30, _⟩ => ⟨S1024, .f32⟩
  | .hbm, ⟨31, _⟩ => ⟨S1x1024, .f32⟩
  | .hbm, ⟨32, _⟩ => ⟨S1x128, .f32⟩
  | .hbm, ⟨33, _⟩ => ⟨S8x128, .f32⟩
  | .hbm, ⟨34, _⟩ => ⟨S1024, .f32⟩
  | .hbm, ⟨35, _⟩ => ⟨S1x1024, .f32⟩
  | .hbm, ⟨36, _⟩ => ⟨S1024x1024, .bf16⟩
  | .hbm, ⟨37, _⟩ => ⟨S1024x1024, .bf16⟩
  | .hbm, ⟨38, _⟩ => ⟨S1024x2048, .f32⟩
  | .hbm, ⟨39, _⟩ => ⟨S1024x2048, .bf16⟩
  | .hbm, ⟨40, _⟩ => ⟨S1024x1024, .bf16⟩
  | .hbm, ⟨41, _⟩ => ⟨S16384x1024, .f32⟩
  | .hbm, ⟨42, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x2048, .bf16⟩
  | .local _ .vmem, ⟨25, _⟩ => ⟨S1024x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S2x8192x1024 : Shape := ⟨3, ![2, 8192, 1024]⟩
abbrev S2x8192x4x256 : Shape := ⟨4, ![2, 8192, 4, 256]⟩
abbrev S2x8192x8x128 : Shape := ⟨4, ![2, 8192, 8, 128]⟩
abbrev S2x1024 : Shape := ⟨2, ![2, 1024]⟩
abbrev S1024 : Shape := ⟨1, ![1024]⟩
abbrev S256 : Shape := ⟨1, ![256]⟩
abbrev S128 : Shape := ⟨1, ![128]⟩
abbrev S1024x8208 : Shape := ⟨2, ![1024, 8208]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x8208 : Shape := ⟨3, ![2, 8192, 8208]⟩
abbrev S2x8192x2048 : Shape := ⟨3, ![2, 8192, 2048]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 147
  | .vmem => 0
  | .smem => 0
  | _ => 0

abbrev hbmTy0_0 (i : Nat) : BufTy := match i % 128 with
  | 0 => ⟨S2x8192x1024, .f32⟩
  | 1 => ⟨S2x8192x4x256, .f32⟩
  | 2 => ⟨S2x8192x1024, .f32⟩
  | 3 => ⟨S2x8192x8x128, .f32⟩
  | 4 => ⟨S2x1024, .f32⟩
  | 5 => ⟨S2x1024, .f32⟩
  | 6 => ⟨S2x1024, .f32⟩
  | 7 => ⟨S2x1024, .f32⟩
  | 8 => ⟨S2x1024, .f32⟩
  | 9 => ⟨S1024, .f32⟩
  | 10 => ⟨S1024, .f32⟩
  | 11 => ⟨S256, .f32⟩
  | 12 => ⟨S128, .f32⟩
  | 13 => ⟨S1024x8208, .f32⟩
  | 14 => ⟨S1024x1024, .f32⟩
  | 15 => ⟨S1024x1024, .f32⟩
  | 16 => ⟨S1024x1024, .f32⟩
  | 17 => ⟨S2x8192x1024, .f32⟩
  | 18 => ⟨S_, .f32⟩
  | 19 => ⟨S2x8192, .f32⟩
  | 20 => ⟨S2x8192x1, .f32⟩
  | 21 => ⟨S_, .f32⟩
  | 22 => ⟨S2x8192x1, .f32⟩
  | 23 => ⟨S2x8192x1, .f32⟩
  | 24 => ⟨S_, .f32⟩
  | 25 => ⟨S2x8192x1, .f32⟩
  | 26 => ⟨S2x8192x1, .f32⟩
  | 27 => ⟨S2x8192x1, .f32⟩
  | 28 => ⟨S2x8192x1024, .f32⟩
  | 29 => ⟨S2x8192x1024, .f32⟩
  | 30 => ⟨S1x1x1024, .f32⟩
  | 31 => ⟨S2x8192x1024, .f32⟩
  | 32 => ⟨S2x8192x1024, .f32⟩
  | 33 => ⟨S2x1x1024, .f32⟩
  | 34 => ⟨S_, .f32⟩
  | 35 => ⟨S2x1x1024, .f32⟩
  | 36 => ⟨S2x1x1024, .f32⟩
  | 37 => ⟨S2x8192x1024, .f32⟩
  | 38 => ⟨S2x8192x1024, .f32⟩
  | 39 => ⟨S2x1x1024, .f32⟩
  | 40 => ⟨S2x8192x1024, .f32⟩
  | 41 => ⟨S2x8192x1024, .f32⟩
  | 42 => ⟨S2x8192x8208, .f32⟩
  | 43 => ⟨S2x8192x2048, .f32⟩
  | 44 => ⟨S2x8192x4x256, .f32⟩
  | 45 => ⟨S_, .f32⟩
  | 46 => ⟨S2x8192x4, .f32⟩
  | 47 => ⟨S2x8192x4x1, .f32⟩
  | 48 => ⟨S_, .f32⟩
  | 49 => ⟨S2x8192x4x1, .f32⟩
  | 50 => ⟨S2x8192x4x1, .f32⟩
  | 51 => ⟨S_, .f32⟩
  | 52 => ⟨S2x8192x4x1, .f32⟩
  | 53 => ⟨S2x8192x4x1, .f32⟩
  | 54 => ⟨S2x8192x4x1, .f32⟩
  | 55 => ⟨S2x8192x4x256, .f32⟩
  | 56 => ⟨S2x8192x4x256, .f32⟩
  | 57 => ⟨S1x1x1x256, .f32⟩
  | 58 => ⟨S2x8192x4x256, .f32⟩
  | 59 => ⟨S2x8192x4x256, .f32⟩
  | 60 => ⟨S2x8192x4x256, .f32⟩
  | 61 => ⟨S2x8192x4x256, .f32⟩
  | 62 => ⟨S2x8192x4x256, .f32⟩
  | 63 => ⟨S_, .f32⟩
  | 64 => ⟨S2x8192x4x256, .f32⟩
  | 65 => ⟨S2x8192x4x256, .f32⟩
  | 66 => ⟨S_, .f32⟩
  | 67 => ⟨S2x8192x4x256, .f32⟩
  | 68 => ⟨S2x8192x4x256, .f32⟩
  | 69 => ⟨S2x8192x4x256, .f32⟩
  | 70 => ⟨S2x8192x4x256, .f32⟩
  | 71 => ⟨S2x8192x1024, .f32⟩
  | 72 => ⟨S2x8192x1024, .f32⟩
  | 73 => ⟨S2x8192x8x128, .f32⟩
  | 74 => ⟨S_, .f32⟩
  | 75 => ⟨S2x8192x8, .f32⟩
  | 76 => ⟨S2x8192x8x1, .f32⟩
  | 77 => ⟨S_, .f32⟩
  | 78 => ⟨S2x8192x8x1, .f32⟩
  | 79 => ⟨S2x8192x8x1, .f32⟩
  | 80 => ⟨S_, .f32⟩
  | 81 => ⟨S2x8192x8x1, .f32⟩
  | 82 => ⟨S2x8192x8x1, .f32⟩
  | 83 => ⟨S2x8192x8x1, .f32⟩
  | 84 => ⟨S2x8192x8x128, .f32⟩
  | 85 => ⟨S2x8192x8x128, .f32⟩
  | 86 => ⟨S1x1x1x128, .f32⟩
  | 87 => ⟨S2x8192x8x128, .f32⟩
  | 88 => ⟨S2x8192x8x128, .f32⟩
  | 89 => ⟨S_, .f32⟩
  | 90 => ⟨S2x8192x8x128, .f32⟩
  | 91 => ⟨S2x8192x8x128, .f32⟩
  | 92 => ⟨S2x8192x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S2x8192x1024, .f32⟩
  | 98 => ⟨S_, .f32⟩
  | 99 => ⟨S2x8192x1024, .f32⟩
  | 100 => ⟨S2x8192x1024, .f32⟩
  | 101 => ⟨S_, .f32⟩
  | 102 => ⟨S2x8192x1024, .f32⟩
  | 103 => ⟨S2x8192x1024, .f32⟩
  | 104 => ⟨S2x8192x1024, .f32⟩
  | 105 => ⟨S2x8192x1024, .f32⟩
  | 106 => ⟨S2x8192x1024, .f32⟩
  | 107 => ⟨S_, .f32⟩
  | 108 => ⟨S2x8192x1024, .f32⟩
  | 109 => ⟨S2x8192x1024, .f32⟩
  | 110 => ⟨S_, .f32⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x1x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S_, .f32⟩
  | 122 => ⟨S2x8192, .f32⟩
  | 123 => ⟨S2x8192x1, .f32⟩
  | 124 => ⟨S_, .f32⟩
  | 125 => ⟨S2x8192x1, .f32⟩
  | 126 => ⟨S2x8192x1, .f32⟩
  | 127 => ⟨S_, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S2x8192x1, .f32⟩
  | 3 => ⟨S2x8192x1024, .f32⟩
  | 4 => ⟨S2x8192x1024, .f32⟩
  | 5 => ⟨S1x1x1024, .f32⟩
  | 6 => ⟨S2x8192x1024, .f32⟩
  | 7 => ⟨S2x8192x1024, .f32⟩
  | 8 => ⟨S2x1x1024, .f32⟩
  | 9 => ⟨S_, .f32⟩
  | 10 => ⟨S2x1x1024, .f32⟩
  | 11 => ⟨S2x1x1024, .f32⟩
  | 12 => ⟨S2x8192x1024, .f32⟩
  | 13 => ⟨S2x8192x1024, .f32⟩
  | 14 => ⟨S2x1x1024, .f32⟩
  | 15 => ⟨S2x8192x1024, .f32⟩
  | 16 => ⟨S2x8192x1024, .f32⟩
  | 17 => ⟨S16384x1024, .f32⟩
  | 18 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_12 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_17 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]
-- ==== Proof.Plain.Blocks.lean ====
/- The blocks of the windows at a grid point, read off the arrays the region finds: point `t` is batch `t / 64`, head
   `t / 8 % 8`, query tile `t % 8`.
   This is the kernel as it is, whose fill of the masked scores is a word. -/
module

public import proofs.«01_k».proof.Proof.Plain.Body
public import Idealize.ShloMosaic.Lib.Pipeline.ValueKit

@[expose] public section

set_option maxRecDepth 16384

noncomputable section

namespace Cert.Attn.Plain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block indices of every window, decided over the whole grid. -/
theorem idx : ∀ t : Fin cfg0.N, win0_0.index t = ![0, 0] ∧ win0_1.index t = ![t.val / 64, t.val % 8, t.val / 8 % 8]
    ∧ win0_2.index t = ![t.val / 64, 0, t.val / 8 % 8] ∧ win0_3.index t = ![t.val / 64, 0, t.val / 8 % 8]
    ∧ win0_4.index t = ![t.val / 64, t.val % 8, t.val / 8 % 8] :=
  (by decide +kernel : ∀ t : Fin grid0.N, _)

theorem t_lt (t : Fin cfg0.N) : t.val < 128 := lt_of_lt_of_eq t.isLt (show cfg0.N = 128 from N_0)

/-- The batch, the head and the query tile of a point. -/
def bOf (t : Fin cfg0.N) : Fin 2 := ⟨t.val / 64, by have := t_lt t; omega⟩
def hOf (t : Fin cfg0.N) : Fin 8 := ⟨t.val / 8 % 8, by omega⟩
def iOf (t : Fin cfg0.N) : Fin 8 := ⟨t.val % 8, by omega⟩

/-- Head `h`'s columns of batch `b` of an array of keys or values. -/
def headBlk (x : Vec F S2x8192x1024 .bf16) (b : Fin 2) (h : Fin 8) : Vec F S1x8192x128 .bf16 :=
  fun y => x (ix3 b (y 1) (⟨128 * h.val + (y 2).val, by have := h.isLt; have : (y 2).val < 128 := (y 2).isLt; omega⟩ : Fin 1024))

/-- Query tile `i` of head `h` of batch `b`. -/
def queryBlk (x : Vec F S2x8192x1024 .bf16) (b : Fin 2) (h i : Fin 8) : Vec F S1x1024x128 .bf16 :=
  fun y => x (ix3 b (⟨1024 * i.val + (y 1).val, by have := i.isLt; have : (y 1).val < 1024 := (y 1).isLt; omega⟩ : Fin 8192)
    (⟨128 * h.val + (y 2).val, by have := h.isLt; have : (y 2).val < 128 := (y 2).isLt; omega⟩ : Fin 1024))

theorem iblk1 (c : Dev nD) (t : Fin cfg0.N) : iblk m c 1 t = queryBlk (V m c main_v14) (bOf t) (hOf t) (iOf t) := by
  funext y
  show iblk m c 1 t y = V m c main_v14 _
  unfold bOf hOf iOf
  blk_ext [iblk, idx t]

theorem iblk2 (c : Dev nD) (t : Fin cfg0.N) : iblk m c 2 t = headBlk (V m c main_v16) (bOf t) (hOf t) := by
  funext y
  show iblk m c 2 t y = V m c main_v16 _
  unfold bOf hOf
  blk_ext [iblk, idx t]

theorem iblk3 (c : Dev nD) (t : Fin cfg0.N) : iblk m c 3 t = headBlk (V m c main_v18) (bOf t) (hOf t) := by
  funext y
  show iblk m c 3 t y = V m c main_v18 _
  unfold bOf hOf
  blk_ext [iblk, idx t]

theorem iblk0 (c : Dev nD) (t : Fin cfg0.N) : iblk m c 0 t = V m c main_v8 := by
  funext y
  blk_ext [iblk, idx t]

end Cert.Attn.Plain

end
-- ==== Proof.Body.lean ====
/- The kernel's body at one grid point, run once with its carried scratch already filled (or filled by this point):
   what it stores into its output block, as a closed term over the blocks it is handed. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.VecWindow
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the main loop carries: the running maximum, the running denominator, the running numerator. -/
abbrev Carry (F : FTy → Type) := FVec F S1x2048 .f32 × FVec F S1x2048 .f32 × FVec F S128x2048 .f32

/-- The carried values before the first tile. -/
def carry0 : Carry F := (k0_pay4 (F := F), k0_pay5 (F := F), k0_pay6 (F := F))

/-- One unmasked tile: the carried values after it, from the queries, the tile's keys and its transposed values. -/
def carryStep (q kt : Vec F S1x1024x128 .bf16) (vt : Vec F S1x128x1024 .bf16) (a : Carry F) : Carry F :=
  (k0_pay8 q a.1 kt, k0_pay11 q a.1 a.2.1 kt, k0_pay12 q a.1 a.2.2 kt vt)

/-- Tile `n` of an array of 8192 rows. -/
def rows (x : Vec F S1x8192x128 .bf16) (n : ℕ) : Vec F S1x1024x128 .bf16 :=
  fun y => x (show S1x8192x128.Idx from fun | 0 => y 0 | 1 => ⟨(1024 * n + (y 1).val) % 8192, Nat.mod_lt _ (by decide)⟩ | 2 => y 2)

/-- The scratch once filled: slot `n` holds value tile `n`, transposed. -/
def VT (x3 : Vec F S1x8192x128 .bf16) : Vec F S8x128x1024 .bf16 :=
  fun y => k0_pay2 (rows x3 (y 0).val) (ix3 (n0 := 1) (n1 := 128) (n2 := 1024) 0 (y 1) (y 2))

/-- The carried values after the first `n` tiles. -/
def carry (q : Vec F S1x1024x128 .bf16) (x2 x3 : Vec F S1x8192x128 .bf16) : ℕ → Carry F
  | 0 => carry0
  | n + 1 => carryStep q (rows x2 n) (k0_pay2 (rows x3 n)) (carry q x2 x3 n)

/-- The output block from the carried values, the diagonal tile's keys and transposed values, and the mixing weight. -/
def outOf (q kt : Vec F S1x1024x128 .bf16) (vt : Vec F S1x128x1024 .bf16) (lam : F .f32) (a : Carry F) : Vec F S1x1024x128 .f32 :=
  k0_pay1 (k0_pay23 a.1 a.2.1 a.2.2 (k0_pay19 q kt) (k0_pay20 (iota .tc S1024x2048 32 [0] iota_S1024x2048_d0_w32) 0#32) k0_pay21 64#32 k0_pay22 0#32 vt)
    (k0_pay24 a.1 a.2.1 a.2.2 (k0_pay19 q kt) (k0_pay20 (iota .tc S1024x2048 32 [0] iota_S1024x2048_d0_w32) 0#32) k0_pay21 64#32 k0_pay22 0#32 vt) lam

/-- What the body stores at query tile `n`. -/
def OUT (n : ℕ) (x0 : Vec F S1x1 .f32) (x1 : Vec F S1x1024x128 .bf16) (x2 x3 : Vec F S1x8192x128 .bf16) : Vec F S1x1024x128 .f32 :=
  outOf x1 (rows x2 n) (k0_pay2 (rows x3 n)) (x0 (ix2 0 0)) (carry x1 x2 x3 n)

section t2
variable (𝒱 : Variants) (c : Dev nD) (bd : Option 𝒱.V) (i : grid0.Coords) (arg3 : Memref sig .tc .smem S1x1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .f32) (harg7 : arg7.IsWhole) (arg8 : Memref sig .tc .vmem S8x128x1024 .bf16) (harg8 : arg8.IsWhole) (v3 : Vec F S1x1024x128 .bf16) (X5 : BufTy.Contents (Elt F) arg5.view.ty) (X8 : BufTy.Contents (Elt F) arg8.view.ty)

theorem tripR2 (k : Fin (k0_t2_loop i).trips) (acc : Carry F) :
    tripR_k0_t2 (F := F) 𝒱 c bd i arg3 harg3 arg4 harg4 arg5 harg5 arg6 harg6 arg7 harg7 arg8 harg8 v3 X5 X8 k acc
      = carryStep v3 (arg5.view.readAt (Elt F) (Rect.unit (s := S1x8192x128) (k0_off3 i k) S1x1024x128.size (k0_off3_inb i k)).toLoadRect X5)
          (arg8.view.readAt (Elt F) (Rect.unit (s := S8x128x1024) (k0_off4 i k) S1x128x1024.size (k0_off4_inb i k)).toLoadRect X8) acc := by
  unfold tripR_k0_t2 trip_k0_t2
  rfl

theorem tripL1 (h1 : k0_cond1 i = 1#1) (X6 : BufTy.Contents (Elt F) arg6.view.ty) (k : Fin k0_t1_loop.trips) :
    tripL_k0_t1 (F := F) 𝒱 c bd i arg3 harg3 arg4 harg4 arg5 harg5 arg6 harg6 arg7 harg7 arg8 harg8 h1 X6 k
      = [⟨Rect.unit (s := S8x128x1024) (k0_off2 k) S1x128x1024.size (k0_off2_inb i k h1),
          k0_pay2 (arg6.view.readAt (Elt F) (Rect.unit (s := S1x8192x128) (k0_off1 k) S1x1024x128.size (k0_off1_inb i k h1)).toLoadRect X6)⟩] := by
  unfold tripL_k0_t1 trip_k0_t1
  rfl

end t2

/-! ## Trip counts -/

theorem trips2 (i : grid0.Coords) : (k0_t2_loop i).trips = (i 2).val := by
  have h : (i 2).val < 8 := (i 2).isLt
  unfold k0_t2_loop
  revert h
  generalize (i 2).val = n
  intro h
  interval_cases n <;> rfl

theorem trips3 (i : grid0.Coords) : (k0_t3_loop i).trips = 0 := Nat.le_zero.mp (k0_t3_abs i).2.1

theorem trips1 : k0_t1_loop.trips = 8 := by rfl

/-! ## Loads -/

/-- Tile `n` of the keys or values, loaded. -/
theorem load_rows (arg : Memref sig .tc .vmem S1x8192x128 .bf16) (X : BufTy.Contents (Elt F) arg.view.ty) (x : Vec F S1x8192x128 .bf16)
    (hX : arg.view.read (Elt F) X = x) (n : ℕ) (hn : n < 8) (off : Fin 3 → ℕ) (ho : off = ![0, 1024 * n, 0]) (inb) :
    arg.view.readAt (Elt F) (Rect.unit (s := S1x8192x128) off S1x1024x128.size inb).toLoadRect X = rows x n := by
  subst ho
  rw [View.readAt_unit _ X inb rfl inb, hX]
  funext y
  have h1 : (y 1).val < 1024 := (y 1).isLt
  refine congrArg x (funext fun a => Fin.ext ?_)
  match a with
  | ⟨0, _⟩ => show 0 + 1 * (y 0).val = (y 0).val; omega
  | ⟨1, _⟩ => show 1024 * n + 1 * (y 1).val = (1024 * n + (y 1).val) % 8192; omega
  | ⟨2, _⟩ => show 0 + 1 * (y 2).val = (y 2).val; omega

/-- Slot `n` of the filled scratch, loaded. -/
theorem load_slot (arg : Memref sig .tc .vmem S8x128x1024 .bf16) (X : BufTy.Contents (Elt F) arg.view.ty) (x3 : Vec F S1x8192x128 .bf16)
    (hX : arg.view.read (Elt F) X = VT x3) (n : ℕ) (off : Fin 3 → ℕ) (ho : off = ![n, 0, 0]) (inb) :
    arg.view.readAt (Elt F) (Rect.unit (s := S8x128x1024) off S1x128x1024.size inb).toLoadRect X = k0_pay2 (rows x3 n) := by
  subst ho
  rw [View.readAt_unit _ X inb rfl inb, hX]
  funext y
  have h0 : (y 0).val < 1 := (y 0).isLt
  show k0_pay2 (rows x3 (n + 1 * (y 0).val)) _ = _
  rw [show n + 1 * (y 0).val = n by omega]
  refine congrArg _ (funext fun a => Fin.ext ?_)
  match a with
  | ⟨0, _⟩ => show 0 = (y 0).val; omega
  | ⟨1, _⟩ => show 0 + 1 * (y 1).val = (y 1).val; omega
  | ⟨2, _⟩ => show 0 + 1 * (y 2).val = (y 2).val; omega

section fill
variable (𝒱 : Variants) (c : Dev nD) (bd : Option 𝒱.V) (i : grid0.Coords) (arg3 : Memref sig .tc .smem S1x1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .f32) (harg7 : arg7.IsWhole) (arg8 : Memref sig .tc .vmem S8x128x1024 .bf16) (harg8 : arg8.IsWhole)

/-- After the first `n` trips of the filling loop the first `n` slots are filled. -/
theorem fill_upto (h1 : k0_cond1 i = 1#1) (X6 : BufTy.Contents (Elt F) arg6.view.ty) (x3 : Vec F S1x8192x128 .bf16) (hX : arg6.view.read (Elt F) X6 = x3)
    (g : BufTy.Contents (Elt F) arg8.view.ty) (n : ℕ) (hn : n ≤ 8) (y : S8x128x1024.Idx) (hy : (y 0).val < n) :
    arg8.view.read (Elt F) (arg8.view.writes (Elt F) g (pb_k0_t1 (F := F) 𝒱 c bd i arg3 harg3 arg4 harg4 arg5 harg5 arg6 harg6 arg7 harg7 arg8 harg8 h1 X6 n)) y = VT x3 y := by
  induction n with
  | zero => exact absurd hy (Nat.not_lt_zero _)
  | succ n ih =>
    have hk : n < k0_t1_loop.trips := by rw [trips1]; omega
    rw [pb_k0_t1_succ 𝒱 c bd i arg3 harg3 arg4 harg4 arg5 harg5 arg6 harg6 arg7 harg7 arg8 harg8 h1 X6 ⟨n, hk⟩, tripL1, List.singleton_append]
    by_cases h : (y 0).val = n
    · rw [View.read_writes_cons_unit_of_mem arg8.view g (k0_off2_inb i ⟨n, hk⟩ h1) _ _ y (ix3 (n0 := 1) (n1 := 128) (n2 := 1024) 0 (y 1) (y 2)) (k0_off2_eq ⟨n, hk⟩)
        (fun a => by
          match a with
          | ⟨0, _⟩ => exact h
          | ⟨1, _⟩ => show (y 1).val = 0 + (y 1).val; omega
          | ⟨2, _⟩ => show (y 2).val = 0 + (y 2).val; omega)]
      rw [load_rows arg6 X6 x3 hX n (by omega) _ (k0_off1_eq ⟨n, hk⟩)]
      show _ = k0_pay2 (rows x3 (y 0).val) _
      rw [h]
    · rw [View.read_writes_cons_unit_of_not_mem arg8.view g (k0_off2_inb i ⟨n, hk⟩ h1) _ _ y (k0_off2_eq ⟨n, hk⟩) 0 (Or.inl (by show (y 0).val < n; omega))]
      exact ih (by omega) (by omega)

theorem fill_all (h1 : k0_cond1 i = 1#1) (X6 : BufTy.Contents (Elt F) arg6.view.ty) (x3 : Vec F S1x8192x128 .bf16) (hX : arg6.view.read (Elt F) X6 = x3)
    (g : BufTy.Contents (Elt F) arg8.view.ty) :
    arg8.view.read (Elt F) (arg8.view.writes (Elt F) g (pb_k0_t1 (F := F) 𝒱 c bd i arg3 harg3 arg4 harg4 arg5 harg5 arg6 harg6 arg7 harg7 arg8 harg8 h1 X6 k0_t1_loop.trips)) = VT x3 :=
  funext fun y => fill_upto 𝒱 c bd i arg3 harg3 arg4 harg4 arg5 harg5 arg6 harg6 arg7 harg7 arg8 harg8 h1 X6 x3 hX g _ (by rw [trips1]) y (by rw [trips1]; exact (y 0).isLt)

/-- The main loop's carried values, from the filled scratch. -/
theorem st2_upto (v3 : Vec F S1x1024x128 .bf16) (X5 : BufTy.Contents (Elt F) arg5.view.ty) (X8 : BufTy.Contents (Elt F) arg8.view.ty) (x2 x3 : Vec F S1x8192x128 .bf16)
    (h5 : arg5.view.read (Elt F) X5 = x2) (h8 : arg8.view.read (Elt F) X8 = VT x3) (n : ℕ) (hn : n ≤ (k0_t2_loop i).trips) :
    st_k0_t2 (F := F) 𝒱 c bd i arg3 harg3 arg4 harg4 arg5 harg5 arg6 harg6 arg7 harg7 arg8 harg8 v3 X5 X8 carry0 n = carry v3 x2 x3 n := by
  induction n with
  | zero => exact st_k0_t2_zero ..
  | succ n ih =>
    have hk : n < (k0_t2_loop i).trips := by omega
    have h8' : n < 8 := by have := trips2 i; have : (i 2).val < 8 := (i 2).isLt; omega
    rw [st_k0_t2_succ 𝒱 c bd i arg3 harg3 arg4 harg4 arg5 harg5 arg6 harg6 arg7 harg7 arg8 harg8 v3 X5 X8 carry0 ⟨n, hk⟩, tripR2, ih (by omega),
      load_rows arg5 X5 x2 h5 n h8' _ (k0_off3_eq i ⟨n, hk⟩), load_slot arg8 X8 x3 h8 n _ (k0_off4_eq i ⟨n, hk⟩)]
    rfl

/-- What both loops leave. -/
theorem st_all (v3 : Vec F S1x1024x128 .bf16) (X5 : BufTy.Contents (Elt F) arg5.view.ty) (X8 : BufTy.Contents (Elt F) arg8.view.ty) (x2 x3 : Vec F S1x8192x128 .bf16)
    (h5 : arg5.view.read (Elt F) X5 = x2) (h8 : arg8.view.read (Elt F) X8 = VT x3) (n : ℕ) (hn : n = (i 2).val) :
    st_k0_t3 (F := F) 𝒱 c bd i arg3 harg3 arg4 harg4 arg5 harg5 arg6 harg6 arg7 harg7 arg8 harg8 v3 X5 X8 (st_k0_t2 (F := F) 𝒱 c bd i arg3 harg3 arg4 harg4 arg5 harg5 arg6 harg6 arg7 harg7 arg8 harg8 v3 X5 X8 carry0 (k0_t2_loop i).trips) (k0_t3_loop i).trips = carry v3 x2 x3 n := by
  rw [trips3, st_k0_t3_zero, st2_upto 𝒱 c bd i arg3 harg3 arg4 harg4 arg5 harg5 arg6 harg6 arg7 harg7 arg8 harg8 v3 X5 X8 x2 x3 h5 h8 _ le_rfl, trips2, hn]

end fill

end Cert.Attn

end
-- ==== Proof.Run.lean ====
/- The kernel's body at one grid point, run once: with the scratch of transposed value tiles filled by this point
   (`run_fill`) or filled already (`run_keep`), it stores `OUT` into its output block. -/
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the run stores, from the raw contents of the buffers it loads. -/
def outRaw (c : Dev nD) (i : grid0.Coords) (arg3 : Memref sig .tc .smem S1x1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .f32) (harg7 : arg7.IsWhole) (arg8 : Memref sig .tc .vmem S8x128x1024 .bf16) (harg8 : arg8.IsWhole) (x0 : F .f32) (v3 : Vec F S1x1024x128 .bf16) (X5 : BufTy.Contents (Elt F) arg5.view.ty) (X8 : BufTy.Contents (Elt F) arg8.view.ty) : Vec F S1x1024x128 .f32 :=
  outOf v3 (arg5.view.readAt (Elt F) (Rect.unit (s := S1x8192x128) (k0_off7 i) S1x1024x128.size (k0_off7_inb i)).toLoadRect X5)
    (arg8.view.readAt (Elt F) (Rect.unit (s := S8x128x1024) (k0_off8 i) S1x128x1024.size (k0_off8_inb i)).toLoadRect X8) x0
    (st_k0_t3 (F := F) Variants.none c none i arg3 harg3 arg4 harg4 arg5 harg5 arg6 harg6 arg7 harg7 arg8 harg8 v3 X5 X8 (st_k0_t2 (F := F) Variants.none c none i arg3 harg3 arg4 harg4 arg5 harg5 arg6 harg6 arg7 harg7 arg8 harg8 v3 X5 X8 carry0 (k0_t2_loop i).trips) (k0_t3_loop i).trips)

theorem outRaw_eq (c : Dev nD) (i : grid0.Coords) (arg3 : Memref sig .tc .smem S1x1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .f32) (harg7 : arg7.IsWhole) (arg8 : Memref sig .tc .vmem S8x128x1024 .bf16) (harg8 : arg8.IsWhole) (x0 : Vec F S1x1 .f32) (x1 : Vec F S1x1024x128 .bf16) (X5 : BufTy.Contents (Elt F) arg5.view.ty) (X8 : BufTy.Contents (Elt F) arg8.view.ty)
    (x2 x3 : Vec F S1x8192x128 .bf16) (h5 : arg5.view.read (Elt F) X5 = x2) (h8 : arg8.view.read (Elt F) X8 = VT x3) :
    outRaw c i arg3 harg3 arg4 harg4 arg5 harg5 arg6 harg6 arg7 harg7 arg8 harg8 (x0 (ix2 0 0)) x1 X5 X8 = OUT (i 2).val x0 x1 x2 x3 := by
  unfold outRaw OUT
  rw [st_all Variants.none c none i arg3 harg3 arg4 harg4 arg5 harg5 arg6 harg6 arg7 harg7 arg8 harg8 x1 X5 X8 x2 x3 h5 h8 (i 2).val rfl,
    load_rows arg5 X5 x2 h5 (i 2).val (i 2).isLt _ (k0_off7_eq i), load_slot arg8 X8 x3 h8 (i 2).val _ (k0_off8_eq i)]

/-- The scratch filled already. -/
theorem run_keep (c : Dev nD) (i : grid0.Coords) (arg3 : Memref sig .tc .smem S1x1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .f32) (harg7 : arg7.IsWhole) (arg8 : Memref sig .tc .vmem S8x128x1024 .bf16) (harg8 : arg8.IsWhole) (hc0 : ¬ k0_cond1 i = 1#1)
    (x0 : Vec F S1x1 .f32) (x1 : Vec F S1x1024x128 .bf16) (x2 : Vec F S1x8192x128 .bf16) (x3 : Vec F S1x8192x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare (VT x3)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (OUT (i 2).val x0 x1 x2 x3) ∗ owns (c : Thread nD τ) arg8 fullShare (VT x3)) -∗ K ⟨⟩))
      ⊢ wp frame (wpE (defs₀ (F := F)) Variants.none c none) E (cc0_attn_prompt i arg3 harg3 arg4 harg4 arg5 harg5 arg6 harg6 arg7 harg7 arg8 harg8) K := by
  simp only [cc0_attn_prompt_eq_skeleton]; unfold cc0_attn_prompt_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg3.eq_unread hf0; obtain rfl := harg4.eq_unread hf1; obtain rfl := harg5.eq_unread hf2; obtain rfl := harg6.eq_unread hf3; obtain rfl := harg8.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap
    · iexact H4
    ipureintro
    refine (View.read_writes_full arg7.view _ inb_S1x1024x128_S1x1024x128_0_0_0 _ []).trans ?_
    sl_unfold_run_names
    have h8 := harg8.read_unread (VT x3)
    refine Eq.trans ?_ (outRaw_eq c i arg3 harg3 arg4 harg4 arg5 harg5 arg6 harg6 arg7 harg7 arg8 harg8 x0 x1 _ _ x2 x3 (harg5.read_unread x2) h8)
    have hq : arg4.view.readAt (Elt F) (Rect.unit (s := S1x1024x128) ![0, 0, 0] S1x1024x128.size inb_S1x1024x128_S1x1024x128_0_0_0).toLoadRect (harg4.unread x1) = x1 :=
      (View.readAt_full arg4.view _ _).trans (harg4.read_unread x1)
    have hl : arg3.view.read (Elt F) (harg3.unread x0) (ix2 0 0) = x0 (ix2 0 0) := congrFun (harg3.read_unread x0) _
    unfold outRaw outOf
    rw [← hl]
    conv_rhs => rw [← hq]
    refine congr (congr (congrArg k0_pay1 ?_) ?_) ?_
    · rfl
    · rfl
    · refine (congrFun (View.readAt_full arg3.view _ inb_S1x1_S1x1_0_0) _).trans (congrArg _ (funext fun a => Fin.ext ?_))
      match a with
      | ⟨0, _⟩ => exact Nat.lt_one_iff.mp (Fin.isLt _)
      | ⟨1, _⟩ => exact Nat.lt_one_iff.mp (Fin.isLt _)
  iexists _; isplitr; · ipureintro; exact harg8.read_unread _
  iexact HS0

/-- The scratch filled by this point. -/
theorem run_fill (c : Dev nD) (i : grid0.Coords) (arg3 : Memref sig .tc .smem S1x1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x1024x128 .f32) (harg7 : arg7.IsWhole) (arg8 : Memref sig .tc .vmem S8x128x1024 .bf16) (harg8 : arg8.IsWhole) (hc0 : k0_cond1 i = 1#1)
    (x0 : Vec F S1x1 .f32) (x1 : Vec F S1x1024x128 .bf16) (x2 : Vec F S1x8192x128 .bf16) (x3 : Vec F S1x8192x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (OUT (i 2).val x0 x1 x2 x3) ∗ owns (c : Thread nD τ) arg8 fullShare (VT x3)) -∗ K ⟨⟩))
      ⊢ wp frame (wpE (defs₀ (F := F)) Variants.none c none) E (cc0_attn_prompt i arg3 harg3 arg4 harg4 arg5 harg5 arg6 harg6 arg7 harg7 arg8 harg8) K := by
  simp only [cc0_attn_prompt_eq_skeleton]; unfold cc0_attn_prompt_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap
    · iexact H4
    ipureintro
    refine (View.read_writes_full arg7.view _ inb_S1x1024x128_S1x1024x128_0_0_0 _ []).trans ?_
    sl_unfold_run_names
    have h8 := fill_all Variants.none c none i arg3 harg3 arg4 harg4 arg5 harg5 arg6 harg6 arg7 harg7 arg8 harg8 hc0 _ x3 (harg6.read_unread x3) fs0
    rw [show k0_t1_loop.trips = Scf.trips k0_t1_loop.lb k0_t1_loop.ub k0_t1_loop.st from rfl] at h8
    generalize arg8.view.writes (Elt F) fs0 (pb_k0_t1 Variants.none c none i arg3 harg3 arg4 harg4 arg5 harg5 arg6 harg6 arg7 harg7 arg8 harg8 hc0 (harg6.unread x3) (Scf.trips k0_t1_loop.lb k0_t1_loop.ub k0_t1_loop.st)) = X8 at h8 ⊢
    refine Eq.trans ?_ (outRaw_eq c i arg3 harg3 arg4 harg4 arg5 harg5 arg6 harg6 arg7 harg7 arg8 harg8 x0 x1 _ _ x2 x3 (harg5.read_unread x2) h8)
    have hq : arg4.view.readAt (Elt F) (Rect.unit (s := S1x1024x128) ![0, 0, 0] S1x1024x128.size inb_S1x1024x128_S1x1024x128_0_0_0).toLoadRect (harg4.unread x1) = x1 :=
      (View.readAt_full arg4.view _ _).trans (harg4.read_unread x1)
    have hl : arg3.view.read (Elt F) (harg3.unread x0) (ix2 0 0) = x0 (ix2 0 0) := congrFun (harg3.read_unread x0) _
    unfold outRaw outOf
    rw [← hl]
    conv_rhs => rw [← hq]
    refine congr (congr (congrArg k0_pay1 ?_) ?_) ?_
    · rfl
    · rfl
    · refine (congrFun (View.readAt_full arg3.view _ inb_S1x1_S1x1_0_0) _).trans (congrArg _ (funext fun a => Fin.ext ?_))
      match a with
      | ⟨0, _⟩ => exact Nat.lt_one_iff.mp (Fin.isLt _)
      | ⟨1, _⟩ => exact Nat.lt_one_iff.mp (Fin.isLt _)
  iexists _; isplitr; swap
  · iexact HS0
  ipureintro
  exact fill_all Variants.none c none i arg3 harg3 arg4 harg4 arg5 harg5 arg6 harg6 arg7 harg7 arg8 harg8 hc0 _ x3 (harg6.read_unread x3) fs0

end Cert.Attn

end
-- ==== Proof.Blocks.lean ====
/- The blocks of the windows at a grid point, read off the arrays the region finds: point `t` is batch `t / 64`, head
   `t / 8 % 8`, query tile `t % 8`. -/
module

public import proofs.«01_k».proof.Proof.Body
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block indices of every window, decided over the whole grid. -/
theorem idx : ∀ t : Fin cfg0.N, win0_0.index t = ![0, 0] ∧ win0_1.index t = ![t.val / 64, t.val % 8, t.val / 8 % 8]
    ∧ win0_2.index t = ![t.val / 64, 0, t.val / 8 % 8] ∧ win0_3.index t = ![t.val / 64, 0, t.val / 8 % 8]
    ∧ win0_4.index t = ![t.val / 64, t.val % 8, t.val / 8 % 8] :=
  (by decide +kernel : ∀ t : Fin grid0.N, _)

theorem t_lt (t : Fin cfg0.N) : t.val < 128 := lt_of_lt_of_eq t.isLt (show cfg0.N = 128 from N_0)

/-- The batch, the head and the query tile of a point. -/
def bOf (t : Fin cfg0.N) : Fin 2 := ⟨t.val / 64, by have := t_lt t; omega⟩
def hOf (t : Fin cfg0.N) : Fin 8 := ⟨t.val / 8 % 8, by omega⟩
def iOf (t : Fin cfg0.N) : Fin 8 := ⟨t.val % 8, by omega⟩

/-- Head `h`'s columns of batch `b` of an array of keys or values. -/
def headBlk (x : Vec F S2x8192x1024 .bf16) (b : Fin 2) (h : Fin 8) : Vec F S1x8192x128 .bf16 :=
  fun y => x (ix3 b (y 1) (⟨128 * h.val + (y 2).val, by have := h.isLt; have : (y 2).val < 128 := (y 2).isLt; omega⟩ : Fin 1024))

/-- Query tile `i` of head `h` of batch `b`. -/
def queryBlk (x : Vec F S2x8192x1024 .bf16) (b : Fin 2) (h i : Fin 8) : Vec F S1x1024x128 .bf16 :=
  fun y => x (ix3 b (⟨1024 * i.val + (y 1).val, by have := i.isLt; have : (y 1).val < 1024 := (y 1).isLt; omega⟩ : Fin 8192)
    (⟨128 * h.val + (y 2).val, by have := h.isLt; have : (y 2).val < 128 := (y 2).isLt; omega⟩ : Fin 1024))

theorem iblk1 (c : Dev nD) (t : Fin cfg0.N) : iblk m c 1 t = queryBlk (V m c main_v14) (bOf t) (hOf t) (iOf t) := by
  funext y
  show iblk m c 1 t y = V m c main_v14 _
  unfold bOf hOf iOf
  blk_ext [iblk, idx t]

theorem iblk2 (c : Dev nD) (t : Fin cfg0.N) : iblk m c 2 t = headBlk (V m c main_v16) (bOf t) (hOf t) := by
  funext y
  show iblk m c 2 t y = V m c main_v16 _
  unfold bOf hOf
  blk_ext [iblk, idx t]

theorem iblk3 (c : Dev nD) (t : Fin cfg0.N) : iblk m c 3 t = headBlk (V m c main_v18) (bOf t) (hOf t) := by
  funext y
  show iblk m c 3 t y = V m c main_v18 _
  unfold bOf hOf
  blk_ext [iblk, idx t]

theorem iblk0 (c : Dev nD) (t : Fin cfg0.N) : iblk m c 0 t = V m c main_v8 := by
  funext y
  blk_ext [iblk, idx t]

end Cert.Attn

end
-- ==== Proof.Launch.lean ====
/- The run of the kernel with its values: after point `t` the output block holds `OUT` of the blocks of the point and
   the scratch the transposed value tiles of the point's head. -/
module

public import proofs.«01_k».proof.Proof.Run
public import proofs.«01_k».proof.Proof.Blocks

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The point's memrefs -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev scr : Memref sig .tc .vmem S8x128x1024 .bf16 := Memref.whole cc0_scratch0

/-- The last coordinate of a point. -/
theorem coord2 (t : Fin cfg0.N) : (grid0.coords t 2).val = t.val % 8 :=
  (by decide +kernel : ∀ t : Fin grid0.N, (grid0.coords t 2).val = t.val % 8) t

/-- The scratch is filled at the first query tile of each head. -/
theorem hcond (t : Fin cfg0.N) : k0_cond1 (grid0.coords t) = 1#1 ↔ t.val % 8 = 0 :=
  (by decide +kernel : ∀ t : Fin grid0.N, k0_cond1 (grid0.coords t) = 1#1 ↔ t.val % 8 = 0) t

theorem PhiA_eq (c : Dev nD) : (Pipeline.ΦA (Val := Elt F) (U := UR sig nD τ) spec0 c : sProp 𝕄)
    = iprop((∃ d, owns (c : Thread nD τ) scr fullShare d) ∗ (∃ r, prngReg c r)) := by
  unfold Pipeline.ΦA; rw [scopedRest0_eq]; simp only [scr, owns_whole]; try rfl

/-! ## The invariant and the proof data -/

/-- Before position `n`: at first every scratch at anything; afterwards the scratch at the filled tiles of the point before. -/
def PhiS (c : Dev nD) : (n : ℕ) → n ≤ cfg0.N → sProp 𝕄
  | 0, _ => Pipeline.ΦA spec0 c
  | n + 1, hn => iprop(owns (c : Thread nD τ) scr fullShare (VT (iblk m c 3 ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scr fullShare (VT (iblk m c 3 ⟨n - 1, by omega⟩)) ∗ (∃ r, prngReg c r)) := by
  cases n with
  | zero => exact absurd rfl hz
  | succ n => rfl

/-- What the body leaves in the output block. -/
def outAt (c : Dev nD) (t : Fin cfg0.N) : Vec F S1x1024x128 .f32 :=
  OUT (t.val % 8) (iblk m c 0 t) (iblk m c 1 t) (iblk m c 2 t) (iblk m c 3 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- Away from the first query tile the head, hence the value block, is that of the point before. -/
theorem iblk3_prev (c : Dev nD) (t : Fin cfg0.N) (h0 : ¬t.val % 8 = 0) (hp) :
    VT (iblk m c 3 ⟨t.val - 1, hp⟩) = VT (iblk m c 3 t) := by
  have hb : bOf ⟨t.val - 1, hp⟩ = bOf t := Fin.ext (by show (t.val - 1) / 64 = t.val / 64; omega)
  have hh : hOf ⟨t.val - 1, hp⟩ = hOf t := Fin.ext (by show (t.val - 1) / 8 % 8 = t.val / 8 % 8; omega)
  rw [iblk3 m c ⟨t.val - 1, hp⟩, iblk3 m c t, hb, hh]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = PhiS m c (t.val + 1) t.isLt from rfl, PhiS_pos m c (t.val + 1) t.isLt (Nat.succ_ne_zero _)]
  have ho : outAt m c t = OUT (grid0.coords t 2).val (iblk m c 0 t) (iblk m c 1 t) (iblk m c 2 t) (iblk m c 3 t) := by
    unfold outAt; rw [coord2 t]
  rw [ho]
  by_cases h0 : t.val % 8 = 0
  · by_cases hz : t.val = 0
    · rw [PhiS_castSucc m c t, PhiS_zero m c _ _ hz, PhiA_eq]
      iintro ⟨⟨HS0, Hg⟩, Ho, ⟨%d0, H0⟩, ⟨%d1, H1⟩, ⟨%d2, H2⟩, ⟨%d3, H3⟩, ⟨%d4, H4⟩⟩
      iapply (run_fill c (grid0.coords t) _ _ _ _ _ _ _ _ _ _ _ _ ((hcond t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply (run_fill c (grid0.coords t) _ _ _ _ _ _ _ _ _ _ _ _ ((hcond t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    rw [PhiS_castSucc m c t, PhiS_pos m c _ _ hz, iblk3_prev m c t h0]
    iintro ⟨⟨HS0, Hg⟩, Ho, ⟨%d0, H0⟩, ⟨%d1, H1⟩, ⟨%d2, H2⟩, ⟨%d3, H3⟩, ⟨%d4, H4⟩⟩
    iapply (run_keep c (grid0.coords t) _ _ _ _ _ _ _ _ _ _ _ _ (fun h => h0 ((hcond t).mp h)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 128 := N_0; omega), PhiA_eq]
  iintro ⟨HS0, Hg⟩
  isplitl [HS0]
  · iexists _; iexact HS0
  iexact Hg

/-! ## The run -/

set_option backward.isDefEq.respectTransparency.types false in
/-- Every fair execution ends, with the output array assembled from `outAt`, the arguments as they were and every counter zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, with the counters. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Attn

end
-- ==== Proof.Softmax.lean ====
/- The online softmax over the extended reals, one query column at a time.

   A running state is a maximum, a denominator and a numerator, all three scaled by the exponential of the negated
   maximum. What the state stands for is the unscaled pair (sum of weights, weighted sum of values); the maximum
   itself drops out, so that nothing has to be known of it but that it is no infinity from above. A masked score is
   `⊥`, whose weight is zero. -/
module

public import Idealize.ShloMosaic.Lib.Pointwise

@[expose] public section

set_option maxRecDepth 16384

noncomputable section

namespace Cert.Attn

open Idealize.ShloMosaic

/-- Reals as extended reals. -/
def up {S : Shape} (f : S.Idx → ℝ) : S.Idx → EReal := fun y => ((f y : ℝ) : EReal)

/-- A finite sum of reals, taken in the extended reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a family and a start that are all below `⊤` is below `⊤`, -/
theorem fold_max_ne_top {ι : Type} (s : Finset ι) (z : EReal) (f : ι → EReal) (hz : z ≠ ⊤) (hf : ∀ i ∈ s, f i ≠ ⊤) :
    s.fold max z f ≠ ⊤ := by
  have h : s.fold max z f < ⊤ :=
    (Finset.fold_max_lt _).2 ⟨lt_top_iff_ne_top.2 hz, fun i hi => lt_top_iff_ne_top.2 (hf i hi)⟩
  exact h.ne

/-- and above `⊥` as soon as one member is. -/
theorem fold_max_ne_bot {ι : Type} (s : Finset ι) (z : EReal) (f : ι → EReal) (i : ι) (hi : i ∈ s) (h : f i ≠ ⊥) :
    s.fold max z f ≠ ⊥ := by
  have h' : (⊥ : EReal) < s.fold max z f := (Finset.lt_fold_max _).2 (.inr ⟨i, hi, bot_lt_iff_ne_bot.2 h⟩)
  exact h'.ne'

/-- The weight of a score, base two: zero at `⊥`. -/
def wt2 (x : EReal) : ℝ := if x = ⊥ then 0 else Real.rpow 2 x.toReal

/-- The weight of a score, base `e`: zero at `⊥`. -/
def wte (x : EReal) : ℝ := if x = ⊥ then 0 else Real.exp x.toReal

@[simp] theorem wt2_bot : wt2 ⊥ = 0 := by simp [wt2]
@[simp] theorem wt2_coe (r : ℝ) : wt2 (r : EReal) = Real.rpow 2 r := by simp [wt2]
@[simp] theorem wte_bot : wte ⊥ = 0 := by simp [wte]
@[simp] theorem wte_coe (r : ℝ) : wte (r : EReal) = Real.exp r := by simp [wte]

theorem rpow_two_neg_mul (M : ℝ) : Real.rpow 2 M * Real.rpow 2 (-M) = 1 := by
  have h : (2 : ℝ) ^ M * (2 : ℝ) ^ (-M) = 1 := by
    rw [← Real.rpow_add (by norm_num : (0 : ℝ) < 2), add_neg_cancel, Real.rpow_zero]
  exact h

/-- A power of two of a shifted score: the weight, times one factor for all. -/
theorem exp2_sub (x : EReal) (hx : x ≠ ⊤) (M : ℝ) :
    FloatOps.exp2 (F := Ideal) (φ := .f32) (x - (M : EReal)) = ((wt2 x * Real.rpow 2 (-M) : ℝ) : EReal) := by
  change Ideal.exp2 (x - (M : EReal)) = _
  induction x with
  | bot => simp
  | top => exact absurd rfl hx
  | coe r =>
    rw [← EReal.coe_sub, Ideal.exp2_coe, wt2_coe]
    congr 1
    have h : (2 : ℝ) ^ (r - M) = (2 : ℝ) ^ r * (2 : ℝ) ^ (-M) := by
      rw [← Real.rpow_add (by norm_num : (0 : ℝ) < 2), sub_eq_add_neg]
    exact h

/-- The same for `exp`. -/
theorem exp_sub (x : EReal) (hx : x ≠ ⊤) (M : ℝ) :
    Ideal.exp (x - (M : EReal)) = ((wte x * Real.exp (-M) : ℝ) : EReal) := by
  induction x with
  | bot => simp
  | top => exact absurd rfl hx
  | coe r =>
    rw [← EReal.coe_sub, Ideal.exp_coe, wte_coe, sub_eq_add_neg, Real.exp_add]

/-- A column's running state `(m, l, a)` stands for the sum of weights `L` and the weighted sum `A`. -/
def Stands (m l a : EReal) (L A : ℝ) : Prop :=
  m ≠ ⊤ ∧ ∃ l' a' : ℝ, l = (l' : EReal) ∧ a = (a' : EReal) ∧ wt2 m * l' = L ∧ wt2 m * a' = A

/-- Before the first key: nothing summed. -/
theorem stands_start : Stands ⊥ 0 0 0 0 :=
  ⟨by simp, 0, 0, by simp, by simp, by simp, by simp⟩

/-- One tile of keys with scores `t` and values `v`: whatever real the new maximum `M` is, the rescaled sums stand for
    the old pair plus the tile's. -/
theorem stands_step {ι : Type} (s : Finset ι) (m l a : EReal) (L A : ℝ) (h : Stands m l a L A) (t : ι → EReal)
    (ht : ∀ i ∈ s, t i ≠ ⊤) (v : ι → ℝ) (M : EReal) (hM : M ≠ ⊤) (hM' : M ≠ ⊥) :
    Stands M
      (FloatOps.exp2 (F := Ideal) (φ := .f32) (m - M) * l + ∑ i ∈ s, FloatOps.exp2 (F := Ideal) (φ := .f32) (t i - M))
      (FloatOps.exp2 (F := Ideal) (φ := .f32) (m - M) * a
        + ∑ i ∈ s, (v i : EReal) * FloatOps.exp2 (F := Ideal) (φ := .f32) (t i - M))
      (L + ∑ i ∈ s, wt2 (t i)) (A + ∑ i ∈ s, v i * wt2 (t i)) := by
  obtain ⟨hm, l', a', rfl, rfl, rfl, rfl⟩ := h
  induction M with
  | bot => exact absurd rfl hM'
  | top => exact absurd rfl hM
  | coe r =>
    have hs : ∀ i ∈ s, FloatOps.exp2 (F := Ideal) (φ := .f32) (t i - (r : EReal))
        = ((wt2 (t i) * Real.rpow 2 (-r) : ℝ) : EReal) := fun i hi => exp2_sub _ (ht i hi) _
    have hs' : ∀ i ∈ s, (v i : EReal) * FloatOps.exp2 (F := Ideal) (φ := .f32) (t i - (r : EReal))
        = ((v i * (wt2 (t i) * Real.rpow 2 (-r)) : ℝ) : EReal) := fun i hi => by
      rw [hs i hi, ← EReal.coe_mul]
    rw [Finset.sum_congr rfl hs, Finset.sum_congr rfl hs', exp2_sub _ hm, sum_coe, sum_coe, ← EReal.coe_mul,
      ← EReal.coe_mul, ← EReal.coe_add, ← EReal.coe_add]
    have hr := rpow_two_neg_mul r
    refine ⟨hM, _, _, rfl, rfl, ?_, ?_⟩
    · rw [wt2_coe, ← Finset.sum_mul]
      linear_combination (wt2 m * l' + ∑ i ∈ s, wt2 (t i)) * hr
    · have e : (∑ i ∈ s, v i * (wt2 (t i) * Real.rpow 2 (-r))) = (∑ i ∈ s, v i * wt2 (t i)) * Real.rpow 2 (-r) := by
        rw [Finset.sum_mul]; exact Finset.sum_congr rfl fun i _ => by ring
      rw [wt2_coe, e]
      linear_combination (wt2 m * a' + ∑ i ∈ s, v i * wt2 (t i)) * hr

/-- The quotient a column ends in: the weighted mean of the values. -/
theorem stands_div (m l a : EReal) (L A : ℝ) (h : Stands m l a L A) (hL : L ≠ 0) :
    Ideal.div a l = ((A / L : ℝ) : EReal) := by
  obtain ⟨hm, l', a', rfl, rfl, rfl, rfl⟩ := h
  have hl : l' ≠ 0 := fun e => hL (by rw [e, mul_zero])
  have hw : wt2 m ≠ 0 := fun e => hL (by rw [e, zero_mul])
  rw [Ideal.div_coe hl, ← EReal.coe_mul]
  congr 1
  field_simp

/-- One weight of the plain softmax: the maximum drops out. -/
theorem softmax_div {ι : Type} (s : Finset ι) (x : ι → EReal) (hx : ∀ i ∈ s, x i ≠ ⊤) (M : EReal) (hM : M ≠ ⊤)
    (hM' : M ≠ ⊥) (hW : (∑ i ∈ s, wte (x i)) ≠ 0) (k : ι) (hk : k ∈ s) :
    Ideal.div (Ideal.exp (x k - M)) (∑ i ∈ s, Ideal.exp (x i - M))
      = ((wte (x k) / ∑ i ∈ s, wte (x i) : ℝ) : EReal) := by
  induction M with
  | bot => exact absurd rfl hM'
  | top => exact absurd rfl hM
  | coe r =>
    rw [Finset.sum_congr rfl fun i hi => exp_sub _ (hx i hi) r, sum_coe, exp_sub _ (hx k hk), ← Finset.sum_mul]
    have hr : Real.exp (-r) ≠ 0 := (Real.exp_pos _).ne'
    rw [Ideal.div_coe (mul_ne_zero hW hr), ← EReal.coe_mul]
    congr 1
    field_simp

end Cert.Attn
-- ==== Proof.Stacked.lean ====
/- The two query maps stacked into one operand, read at one index. -/
module

public import proofs.«01_k».proof.Proof.Gen.KernelIdeal.Skeleton
public import proofs.«01_k».proof.Proof.Softmax

@[expose] public section

set_option maxRecDepth 16384

noncomputable section

namespace Cert.Attn

open Cert.KernelIdeal Cert.KernelIdeal.Gen
open Idealize.ShloMosaic

/-- The column of query row `r` in the first (`μ = 0`) or second half of the stacked queries. -/
def col (μ : Fin 2) (r : Fin 1024) : Fin 2048 := ⟨1024 * μ.val + r.val, by omega⟩

/-- Dimension `d` of the head's first or second half. -/
def dim (μ : Fin 2) (d : Fin 64) : Fin 128 := ⟨64 * μ.val + d.val, by omega⟩

theorem lt64_word : ∀ d : Fin 128, IntOp.cmpi .slt (BitVec.ofNat 32 d.val) 64#32 = if d.val < 64 then 1#1 else 0#1 := by
  decide +kernel

theorem ge64_word : ∀ d : Fin 128, IntOp.cmpi .sge (BitVec.ofNat 32 d.val) 64#32 = if d.val < 64 then 0#1 else 1#1 := by
  decide +kernel

/-- The stacked queries: a row of map `μ` keeps its own half of the dimensions and is zero on the other. -/
theorem stacked_at (q : Vec Ideal S1x1024x128 .bf16) (μ ν : Fin 2) (r : Fin 1024) (d : Fin 64) :
    k0_pay3 q (ix2 (col μ r) (dim ν d)) = if ν = μ then q (ix3 0 r (dim ν d)) else 0 := by
  pointwise [k0_pay3]
  have e := lt64_word (dim ν d)
  have e' := ge64_word (dim ν d)
  rw [e, e']
  have hr := r.isLt
  have hd := d.isLt
  by_cases hμ : μ = 0
  · subst hμ
    have h1 : (col 0 r).val < 1024 := by simp [col]
    rw [dif_pos h1]
    have h2 : (⟨(col 0 r).val, h1⟩ : Fin 1024) = r := Fin.ext (by simp [col])
    rw [h2]
    by_cases hν : ν = 0
    · subst hν
      have h3 : (dim 0 d).val < 64 := by simp [dim]
      simp [h3, Scalar.select]
    · have h3 : ¬ (dim ν d).val < 64 := by
        have : ν.val = 1 := by omega
        simp [dim, this]
      simp [h3, Scalar.select, hν]
  · have hμ1 : μ = 1 := by omega
    subst hμ1
    have h1 : ¬ (col 1 r).val < 1024 := by simp [col]
    rw [dif_neg h1]
    have h2 : (⟨(col 1 r).val - 1024, by have := (col 1 r).isLt; omega⟩ : Fin 1024) = r := Fin.ext (by simp [col])
    rw [h2]
    by_cases hν : ν = 0
    · subst hν
      have h3 : (dim 0 d).val < 64 := by simp [dim]
      simp [h3, Scalar.select]
    · have hν1 : ν = 1 := by omega
      subst hν1
      have h3 : ¬ (dim 1 d).val < 64 := by simp [dim]
      simp [h3, Scalar.select]

end Cert.Attn
-- ==== Proof.Words.lean ====
/- The index words of the causal mask by chunks of 64, evaluated. -/
module

public import proofs.«01_k».proof.Proof.Gen.KernelIdeal.Skeleton
public import proofs.«01_k».proof.Proof.Softmax

@[expose] public section

set_option maxRecDepth 16384

noncomputable section

namespace Cert.Attn

open Idealize.ShloMosaic

/-! ### The diagonal tile's mask -/

/-- A word divided by 64, as the kernel spells the floor of the division. -/
def floor64 (w w' : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi w' 1#32) w'

/-- A column modulo 1024, as the kernel spells it. -/
def mod1024 (w : BitVec 32) : BitVec 32 :=
  let k : BitVec 32 := Scalar.select (Scalar.cmpi .eq 1024#32 0#32) 1#32 1024#32
  Scalar.select
    (IntOp.andi
      (IntOp.xori (IntOp.cmpi .slt (IntOp.remsi .vector w k) 0#32) (Scalar.cmpi .slt k 0#32))
      (IntOp.cmpi .ne (IntOp.remsi .vector w k) 0#32))
    (IntOp.addi (IntOp.remsi .vector w k) k) (IntOp.remsi .vector w k)

theorem key_word : ∀ j : Fin 1024,
    floor64 (IntOp.addi (BitVec.ofNat 32 j.val) 0#32) (IntOp.divsi .vector (IntOp.addi (BitVec.ofNat 32 j.val) 0#32) 64#32)
      = BitVec.ofNat 32 (j.val / 64) := by
  decide +kernel

theorem query_word : ∀ c : Fin 2048,
    floor64 (mod1024 (BitVec.ofNat 32 c.val)) (IntOp.divsi .vector (mod1024 (BitVec.ofNat 32 c.val)) 64#32)
      = BitVec.ofNat 32 (c.val % 1024 / 64) := by
  decide +kernel

theorem chunk_word : ∀ a b : Fin 16,
    IntOp.cmpi .sge (BitVec.ofNat 32 a.val) (BitVec.ofNat 32 b.val) = if b.val ≤ a.val then 1#1 else 0#1 := by
  decide +kernel

end Cert.Attn
-- ==== Proof.KernelAt.lean ====
/- The kernel's vector expressions read at one index, over the extended reals: scores, the running state's update, the
   diagonal tile's masked update, and the block that is stored. -/
module

public import proofs.«01_k».proof.Proof.Gen.KernelIdeal.Skeleton
public import proofs.«01_k».proof.Proof.Stacked
public import proofs.«01_k».proof.Proof.Words

@[expose] public section

set_option maxRecDepth 16384

noncomputable section

namespace Cert.Attn

open Cert.KernelIdeal Cert.KernelIdeal.Gen
open Idealize.ShloMosaic

/-- A sum over a head's dimensions, half by half. -/
theorem sum_dims (f : Fin 128 → EReal) : ∑ x, f x = ∑ d, f (dim 0 d) + ∑ d, f (dim 1 d) := by
  have h := Fin.sum_univ_add (a := 64) (b := 64) f
  rw [h]
  rfl

theorem scores_sum (q kt : Vec Ideal S1x1024x128 .bf16) (j : Fin 1024) (c : Fin 2048) :
    k0_pay7 q kt (ix2 j c) = ∑ x : Fin 128, kt (ix3 0 j x) * k0_pay3 q (ix2 c x) := by
  pointwise [k0_pay7]

theorem diag_scores (q kt : Vec Ideal S1x1024x128 .bf16) : k0_pay19 q kt = k0_pay7 q kt := rfl

/-- A score: the product of a key with a query over one half of the dimensions. -/
theorem scores_at (q kt : S1x1024x128.Idx → ℝ) (μ : Fin 2) (j r : Fin 1024) :
    k0_pay7 (F := Ideal) (fun y => ((q y : ℝ) : EReal)) (fun y => ((kt y : ℝ) : EReal)) (ix2 j (col μ r))
      = ((∑ d : Fin 64, kt (ix3 0 j (dim μ d)) * q (ix3 0 r (dim μ d)) : ℝ) : EReal) := by
  rw [scores_sum, sum_dims, ← sum_coe]
  by_cases hμ : μ = 0
  · subst hμ
    have e : ∑ d : Fin 64, (((kt (ix3 0 j (dim 1 d)) : ℝ) : EReal))
        * k0_pay3 (F := Ideal) (fun y => ((q y : ℝ) : EReal)) (ix2 (col 0 r) (dim 1 d)) = 0 :=
      Finset.sum_eq_zero fun d _ => by rw [stacked_at, if_neg (by decide), mul_zero]
    rw [e, add_zero]
    exact Finset.sum_congr rfl fun d _ => by rw [stacked_at, if_pos rfl, EReal.coe_mul]
  · have hμ1 : μ = 1 := by omega
    subst hμ1
    have e : ∑ d : Fin 64, (((kt (ix3 0 j (dim 0 d)) : ℝ) : EReal))
        * k0_pay3 (F := Ideal) (fun y => ((q y : ℝ) : EReal)) (ix2 (col 1 r) (dim 0 d)) = 0 :=
      Finset.sum_eq_zero fun d _ => by rw [stacked_at, if_neg (by decide), mul_zero]
    rw [e, zero_add]
    exact Finset.sum_congr rfl fun d _ => by rw [stacked_at, if_pos rfl, EReal.coe_mul]

/-- The named constant under the masks, and the word the maxima start from, are both `⊥`. -/
theorem mask_bot : Named.named (F := Ideal) κ (φ := .f32) "mask" 0xF149F2CA#32 = (⊥ : EReal) := by
  simp [Named.named, κ]

theorem start_bot : Ideal.ofBits .f32 0xFF800000#32 = (⊥ : EReal) := by
  simp [Ideal.ofBits, Ideal.ieee]

theorem m0_at (i : S1x2048.Idx) : k0_pay4 (F := Ideal) i = (⊥ : EReal) := by
  pointwise [k0_pay4]; exact mask_bot
theorem l0_at (i : S1x2048.Idx) : k0_pay5 (F := Ideal) i = (0 : EReal) := by
  pointwise [k0_pay5]
theorem a0_at (i : S128x2048.Idx) : k0_pay6 (F := Ideal) i = (0 : EReal) := by
  pointwise [k0_pay6]

/-- An unmasked tile's new maximum, over its scores `s`. -/
def newM (m : FVec Ideal S1x2048 .f32) (s : FVec Ideal S1024x2048 .f32) : FVec Ideal S1x2048 .f32 :=
  maximumf m (shapeCast S1x2048 (multiReduction .maximumf [0] S2048 s 0xFF800000#32 reduces_S1024x2048_S2048 (.inl rfl) rfl)
    shapeCasts_S2048_S1x2048)

/-- The weights of the tile's keys under a maximum `M`. -/
def newP (M : FVec Ideal S1x2048 .f32) (s : FVec Ideal S1024x2048 .f32) : FVec Ideal S1024x2048 .f32 :=
  exp2 (subf s (broadcastTo S1024x2048 M broadcasts_S1x2048_S1024x2048))

/-- The new denominator, -/
def newL (m l M : FVec Ideal S1x2048 .f32) (p : FVec Ideal S1024x2048 .f32) : FVec Ideal S1x2048 .f32 :=
  addf (mulf (exp2 (subf m M)) l)
    (shapeCast S1x2048 (multiReduction .add [0] S2048 p 0x00000000#32 reduces_S1024x2048_S2048 (.inl rfl) rfl)
      shapeCasts_S2048_S1x2048)

/-- and the new numerators. -/
def newA (m M : FVec Ideal S1x2048 .f32) (a : FVec Ideal S128x2048 .f32) (vt : Vec Ideal S1x128x1024 .bf16)
    (p : FVec Ideal S1024x2048 .f32) : FVec Ideal S128x2048 .f32 :=
  addf (mulf (broadcastTo S128x2048 (exp2 (subf m M)) broadcasts_S1x2048_S128x2048) a)
    (matmul (φ₁ := .bf16) (φ₂ := .bf16) dot_S128x1024_S1024x2048_S128x2048_1_0_0_1_n_n none
      (shapeCast S128x1024 vt shapeCasts_S1x128x1024_S128x1024) (truncf .bf16 p bitsLt_bf16_f32)
      (constant S128x2048 .f32 0x00000000#32))

theorem pay8_eq (q kt : Vec Ideal S1x1024x128 .bf16) (m : FVec Ideal S1x2048 .f32) :
    k0_pay8 q m kt = newM m (k0_pay7 q kt) := by
  unfold k0_pay8 newM; rfl

theorem pay10_eq (q kt : Vec Ideal S1x1024x128 .bf16) (m : FVec Ideal S1x2048 .f32) :
    k0_pay10 q m kt = newP (k0_pay8 q m kt) (k0_pay7 q kt) := by
  unfold k0_pay10 newP; rfl

theorem pay11_eq (q kt : Vec Ideal S1x1024x128 .bf16) (m l : FVec Ideal S1x2048 .f32) :
    k0_pay11 q m l kt = newL m l (k0_pay8 q m kt) (k0_pay10 q m kt) := by
  unfold k0_pay11 newL k0_pay9; rfl

theorem pay12_eq (q kt : Vec Ideal S1x1024x128 .bf16) (m : FVec Ideal S1x2048 .f32) (a : FVec Ideal S128x2048 .f32)
    (vt : Vec Ideal S1x128x1024 .bf16) :
    k0_pay12 q m a kt vt = newA m (k0_pay8 q m kt) a vt (k0_pay10 q m kt) := by
  unfold k0_pay12 newA k0_pay9; rfl

theorem fold_at (s : FVec Ideal S1024x2048 .f32) (c : Fin 2048) :
    shapeCast S1x2048 (multiReduction .maximumf [0] S2048 s 0xFF800000#32 reduces_S1024x2048_S2048 (.inl rfl) rfl)
      shapeCasts_S2048_S1x2048 (ix2 0 c)
      = Finset.univ.fold max (Ideal.ofBits .f32 0xFF800000#32) fun x : Fin 1024 => s (ix2 x c) := by
  pointwise []

theorem newM_at (m : FVec Ideal S1x2048 .f32) (s : FVec Ideal S1024x2048 .f32) (c : Fin 2048) :
    newM m s (ix2 0 c)
      = max (m (ix2 0 c)) (Finset.univ.fold max (Ideal.ofBits .f32 0xFF800000#32) fun x : Fin 1024 => s (ix2 x c)) :=
  congrArg (max (m (ix2 0 c))) (fold_at s c)

theorem newP_at (M : FVec Ideal S1x2048 .f32) (s : FVec Ideal S1024x2048 .f32) (x : Fin 1024) (c : Fin 2048) :
    newP M s (ix2 x c) = FloatOps.exp2 (F := Ideal) (φ := .f32) (s (ix2 x c) - M (ix2 0 c)) := by
  pointwise [newP]

theorem newL_at (m l M : FVec Ideal S1x2048 .f32) (p : FVec Ideal S1024x2048 .f32) (c : Fin 2048) :
    newL m l M p (ix2 0 c)
      = FloatOps.exp2 (F := Ideal) (φ := .f32) (m (ix2 0 c) - M (ix2 0 c)) * l (ix2 0 c) + ∑ x : Fin 1024, p (ix2 x c) := by
  pointwise [newL]

theorem newA_at (m M : FVec Ideal S1x2048 .f32) (a : FVec Ideal S128x2048 .f32) (vt : Vec Ideal S1x128x1024 .bf16)
    (p : FVec Ideal S1024x2048 .f32) (d : Fin 128) (c : Fin 2048) :
    newA m M a vt p (ix2 d c)
      = FloatOps.exp2 (F := Ideal) (φ := .f32) (m (ix2 0 c) - M (ix2 0 c)) * a (ix2 d c)
        + ∑ x : Fin 1024, vt (ix3 0 d x) * p (ix2 x c) := by
  pointwise [newA]

/-- The new maximum, denominator and numerator of an unmasked tile, at a column. -/
theorem m_at (q kt : Vec Ideal S1x1024x128 .bf16) (m : FVec Ideal S1x2048 .f32) (c : Fin 2048) :
    k0_pay8 q m kt (ix2 0 c)
      = max (m (ix2 0 c)) (Finset.univ.fold max ⊥ fun x : Fin 1024 => k0_pay7 q kt (ix2 x c)) := by
  rw [pay8_eq, newM_at, start_bot]

theorem l_at (q kt : Vec Ideal S1x1024x128 .bf16) (m l : FVec Ideal S1x2048 .f32) (c : Fin 2048) :
    k0_pay11 q m l kt (ix2 0 c)
      = FloatOps.exp2 (F := Ideal) (φ := .f32) (m (ix2 0 c) - k0_pay8 q m kt (ix2 0 c)) * l (ix2 0 c)
        + ∑ x : Fin 1024, FloatOps.exp2 (F := Ideal) (φ := .f32) (k0_pay7 q kt (ix2 x c) - k0_pay8 q m kt (ix2 0 c)) := by
  rw [pay11_eq, newL_at, pay10_eq]
  simp only [newP_at]

theorem a_at (q kt : Vec Ideal S1x1024x128 .bf16) (vt : Vec Ideal S1x128x1024 .bf16) (m : FVec Ideal S1x2048 .f32)
    (a : FVec Ideal S128x2048 .f32) (d : Fin 128) (c : Fin 2048) :
    k0_pay12 q m a kt vt (ix2 d c)
      = FloatOps.exp2 (F := Ideal) (φ := .f32) (m (ix2 0 c) - k0_pay8 q m kt (ix2 0 c)) * a (ix2 d c)
        + ∑ x : Fin 1024, vt (ix3 0 d x)
            * FloatOps.exp2 (F := Ideal) (φ := .f32) (k0_pay7 q kt (ix2 x c) - k0_pay8 q m kt (ix2 0 c)) := by
  rw [pay12_eq, newA_at, pay10_eq]
  simp only [newP_at]

/-- The transposed copy of a tile of values. -/
theorem vt_at (v : Vec Ideal S1x1024x128 .bf16) (d : Fin 128) (j : Fin 1024) :
    k0_pay2 v (ix3 0 d j) = v (ix3 0 j d) := by
  pointwise [k0_pay2]

/-! ### The diagonal tile's mask -/

theorem key_chunk (j : Fin 1024) (c : Fin 2048) :
    k0_pay20 (iota .tc S1024x2048 32 [0] iota_S1024x2048_d0_w32) 0#32 (ix2 j c) = BitVec.ofNat 32 (j.val / 64) := by
  rw [← key_word]
  pointwise [k0_pay20, floor64]

theorem query_mod (j : Fin 1024) (c : Fin 2048) : k0_pay21 (ix2 j c) = mod1024 (BitVec.ofNat 32 c.val) := by
  pointwise [k0_pay21, mod1024]

theorem query_div (j : Fin 1024) (c : Fin 2048) :
    k0_pay22 (ix2 j c) = IntOp.divsi .vector (mod1024 (BitVec.ofNat 32 c.val)) 64#32 := by
  rw [← query_mod j c]
  pointwise [k0_pay22]

/-- The last update and the quotient, with the mask's three index vectors arbitrary. -/
theorem quot_words (m l : FVec Ideal S1x2048 .f32) (a : FVec Ideal S128x2048 .f32) (s : FVec Ideal S1024x2048 .f32)
    (w58 w75 w77 : IVec S1024x2048 32) (vt : Vec Ideal S1x128x1024 .bf16) (d : Fin 128) (c : Fin 2048)
    (t : Fin 1024 → EReal) (M : EReal)
    (ht : t = fun x => Scalar.select (IntOp.cmpi .sge (floor64 (w75 (ix2 x c)) (w77 (ix2 x c))) (w58 (ix2 x c)))
      (s (ix2 x c)) (Named.named (F := Ideal) κ (φ := .f32) "mask" 0xF149F2CA#32))
    (hM : M = max (m (ix2 0 c)) (Finset.univ.fold max (Ideal.ofBits .f32 0xFF800000#32) t)) :
    k0_pay23 m l a s w58 w75 64#32 w77 0#32 vt (ix2 d c)
      = Ideal.div
        (FloatOps.exp2 (F := Ideal) (φ := .f32) (m (ix2 0 c) - M) * a (ix2 d c)
          + ∑ x : Fin 1024, vt (ix3 0 d x) * FloatOps.exp2 (F := Ideal) (φ := .f32) (t x - M))
        (FloatOps.exp2 (F := Ideal) (φ := .f32) (m (ix2 0 c) - M) * l (ix2 0 c)
          + ∑ x : Fin 1024, FloatOps.exp2 (F := Ideal) (φ := .f32) (t x - M)) := by
  subst hM ht
  pointwise [k0_pay23, floor64]

/-- The masked scores of the diagonal tile: a key is kept where its chunk of 64 is not after the query's. -/
theorem diag_score (s : FVec Ideal S1024x2048 .f32) (μ : Fin 2) (r x : Fin 1024) :
    Scalar.select (IntOp.cmpi .sge
        (floor64 (k0_pay21 (ix2 x (col μ r))) (k0_pay22 (ix2 x (col μ r))))
        (k0_pay20 (iota .tc S1024x2048 32 [0] iota_S1024x2048_d0_w32) 0#32 (ix2 x (col μ r))))
      (s (ix2 x (col μ r))) (Named.named (F := Ideal) κ (φ := .f32) "mask" 0xF149F2CA#32)
      = if x.val / 64 ≤ r.val / 64 then s (ix2 x (col μ r)) else (⊥ : EReal) := by
  rw [query_mod, query_div, query_word, key_chunk, mask_bot]
  have e : (col μ r).val % 1024 = r.val := by simp only [col]; omega
  have h := chunk_word ⟨r.val / 64, by omega⟩ ⟨x.val / 64, by omega⟩
  rw [e]
  dsimp only at h
  rw [h]
  by_cases hc : x.val / 64 ≤ r.val / 64 <;> simp [hc, Scalar.select]

/-- The stored block: the first map's quotient less `lam` times the second's, queries in rows. -/
theorem out_at (v124 : FVec Ideal S128x2048 .f32) (v125 : FVec Ideal S128x1024 .f32) (lam : Elt Ideal .f32)
    (j : Fin 1024) (d : Fin 128) :
    k0_pay1 v124 v125 lam (ix3 0 j d) = v125 (ix2 d j) - lam * v124 (ix2 d (col 1 j)) := by
  pointwise [k0_pay1]
  rfl

theorem first_at (m l : FVec Ideal S1x2048 .f32) (a : FVec Ideal S128x2048 .f32) (s : FVec Ideal S1024x2048 .f32)
    (w58 w75 w77 : IVec S1024x2048 32) (vt : Vec Ideal S1x128x1024 .bf16) (d : Fin 128) (r : Fin 1024) :
    k0_pay24 m l a s w58 w75 64#32 w77 0#32 vt (ix2 d r) = k0_pay23 m l a s w58 w75 64#32 w77 0#32 vt (ix2 d (col 0 r)) := by
  pointwise [k0_pay24]
  exact congrArg _ (congrArg (ix2 d) (Fin.ext (by simp [col])))

end Cert.Attn
-- ==== Proof.Carry.lean ====
/- The carried values of the loop over unmasked tiles and the block stored after the diagonal tile, as real numbers:
   over finite queries, keys and values a column's state stands for the sum of the weights and the weighted sum of the
   values over the keys met so far. -/
module

public import proofs.«01_k».proof.Proof.Body
public import proofs.«01_k».proof.Proof.KernelAt

@[expose] public section

set_option maxRecDepth 16384

noncomputable section

namespace Cert.Attn

open Cert.KernelIdeal Cert.KernelIdeal.Gen
open Idealize.ShloMosaic

/-- Key number `K`, taken round the 8192 there are. -/
def key (K : ℕ) : Fin 8192 := ⟨K % 8192, Nat.mod_lt _ (by decide)⟩

/-- The weight of key `K` for query row `r` under map `μ`: two to the power of their score. -/
def wgt (q : S1x1024x128.Idx → ℝ) (k : S1x8192x128.Idx → ℝ) (μ : Fin 2) (r : Fin 1024) (K : ℕ) : ℝ :=
  Real.rpow 2 (∑ d : Fin 64, k (ix3 0 (key K) (dim μ d)) * q (ix3 0 r (dim μ d)))

theorem wgt_pos (q : S1x1024x128.Idx → ℝ) (k : S1x8192x128.Idx → ℝ) (μ : Fin 2) (r : Fin 1024) (K : ℕ) :
    0 < wgt q k μ r K :=
  Real.rpow_pos_of_pos (by norm_num) _

variable (q : S1x1024x128.Idx → ℝ) (k v : S1x8192x128.Idx → ℝ)

/-- A tile's scores. -/
theorem tile_scores (n : ℕ) (μ : Fin 2) (j r : Fin 1024) :
    k0_pay7 (F := Ideal) (up q) (rows (F := Ideal) (up k) n) (ix2 j (col μ r))
      = ((∑ d : Fin 64, k (ix3 0 (key (1024 * n + j.val)) (dim μ d)) * q (ix3 0 r (dim μ d)) : ℝ) : EReal) := by
  have h := scores_at q (fun y => k (ix3 0 (key (1024 * n + (y 1).val)) (y 2))) μ j r
  refine Eq.trans (congrFun (congrArg (k0_pay7 (F := Ideal) (up q)) ?_) _) h
  funext y
  have h0 : y 0 = (0 : Fin 1) := Subsingleton.elim (α := Fin 1) _ _
  refine congrArg (fun z => ((k z : ℝ) : EReal)) ?_
  funext a
  match a with
  | ⟨0, _⟩ => exact h0
  | ⟨1, _⟩ => rfl
  | ⟨2, _⟩ => rfl

theorem tile_values (n : ℕ) (d : Fin 128) (j : Fin 1024) :
    k0_pay2 (F := Ideal) (rows (F := Ideal) (up v) n) (ix3 0 d j)
      = ((v (ix3 0 (key (1024 * n + j.val)) d) : ℝ) : EReal) := by
  rw [vt_at]
  refine congrArg (fun z => ((v z : ℝ) : EReal)) ?_
  funext a
  match a with
  | ⟨0, _⟩ => rfl
  | ⟨1, _⟩ => rfl
  | ⟨2, _⟩ => rfl

/-- A running maximum over a tile of reals is a real. -/
theorem tile_max {m : EReal} (hm : m ≠ ⊤) (t : Fin 1024 → EReal) (ht : ∀ x, t x ≠ ⊤) (x : Fin 1024) (hx : t x ≠ ⊥) :
    max m (Finset.univ.fold max ⊥ t) ≠ ⊤ ∧ max m (Finset.univ.fold max ⊥ t) ≠ ⊥ := by
  have h1 := fold_max_ne_top Finset.univ ⊥ t (by simp) fun i _ => ht i
  have h2 := fold_max_ne_bot Finset.univ ⊥ t x (Finset.mem_univ _) hx
  constructor
  · exact (max_lt (lt_top_iff_ne_top.2 hm) (lt_top_iff_ne_top.2 h1)).ne
  · exact (lt_of_lt_of_le (bot_lt_iff_ne_bot.2 h2) (le_max_right _ _)).ne'

theorem sum_tile (f : ℕ → ℝ) (n : ℕ) :
    ∑ K ∈ Finset.range (1024 * n), f K + ∑ j : Fin 1024, f (1024 * n + j.val)
      = ∑ K ∈ Finset.range (1024 * (n + 1)), f K := by
  rw [Nat.mul_succ, Finset.sum_range_add, Finset.sum_range (fun x => f (1024 * n + x))]

/-- After `n` tiles a column stands for the sums over the first `1024 n` keys. -/
theorem carry_stands (μ : Fin 2) (r : Fin 1024) (d : Fin 128) : ∀ n : ℕ,
    Stands ((carry (F := Ideal) (up q) (up k) (up v) n).1 (ix2 0 (col μ r)))
      ((carry (F := Ideal) (up q) (up k) (up v) n).2.1 (ix2 0 (col μ r)))
      ((carry (F := Ideal) (up q) (up k) (up v) n).2.2 (ix2 d (col μ r)))
      (∑ K ∈ Finset.range (1024 * n), wgt q k μ r K)
      (∑ K ∈ Finset.range (1024 * n), v (ix3 0 (key K) d) * wgt q k μ r K)
  | 0 => by
    have h := stands_start
    simp only [carry, carry0]
    rw [m0_at, l0_at, a0_at]
    simpa using h
  | n + 1 => by
    have ih := carry_stands μ r d n
    simp only [carry, carryStep]
    generalize carry (F := Ideal) (up q) (up k) (up v) n = a at ih ⊢
    rw [l_at, a_at, ← sum_tile, ← sum_tile]
    have ht : ∀ x : Fin 1024, k0_pay7 (F := Ideal) (up q) (rows (F := Ideal) (up k) n) (ix2 x (col μ r)) ≠ ⊤ := fun x => by
      rw [tile_scores]; exact EReal.coe_ne_top _
    have hb : k0_pay7 (F := Ideal) (up q) (rows (F := Ideal) (up k) n) (ix2 0 (col μ r)) ≠ ⊥ := by
      rw [tile_scores]; exact EReal.coe_ne_bot _
    have hM := tile_max ih.1 _ ht 0 hb
    rw [← m_at] at hM
    have h := stands_step Finset.univ _ _ _ _ _ ih
      (fun x : Fin 1024 => k0_pay7 (F := Ideal) (up q) (rows (F := Ideal) (up k) n) (ix2 x (col μ r))) (fun i _ => ht i)
      (fun x : Fin 1024 => v (ix3 0 (key (1024 * n + x.val)) d)) _ hM.1 hM.2
    simp only [tile_values]
    have hw : ∀ x : Fin 1024, wt2 (k0_pay7 (F := Ideal) (up q) (rows (F := Ideal) (up k) n) (ix2 x (col μ r)))
        = wgt q k μ r (1024 * n + x.val) := fun x => by rw [tile_scores, wt2_coe]; rfl
    simp only [hw] at h
    exact h

/-- The keys a query row of tile `n` attends to, weighted. -/
def kept (n : ℕ) (μ : Fin 2) (r : Fin 1024) (K : ℕ) : ℝ :=
  if K / 64 ≤ (1024 * n + r.val) / 64 then wgt q k μ r K else 0

theorem kept_before (n : ℕ) (μ : Fin 2) (r : Fin 1024) (K : ℕ) (h : K < 1024 * n) : kept q k n μ r K = wgt q k μ r K := by
  rw [kept, if_pos (by omega)]

theorem kept_tile (n : ℕ) (μ : Fin 2) (r j : Fin 1024) :
    kept q k n μ r (1024 * n + j.val) = if j.val / 64 ≤ r.val / 64 then wgt q k μ r (1024 * n + j.val) else 0 := by
  rw [kept]
  exact if_congr (by omega) rfl rfl

theorem kept_after (n : ℕ) (μ : Fin 2) (r : Fin 1024) (K : ℕ) (h : 1024 * (n + 1) ≤ K) : kept q k n μ r K = 0 := by
  rw [kept, if_neg (by omega)]

theorem kept_nonneg (n : ℕ) (μ : Fin 2) (r : Fin 1024) (K : ℕ) : 0 ≤ kept q k n μ r K := by
  rw [kept]; split
  · exact (wgt_pos q k μ r K).le
  · exact le_rfl

/-- The sum over all keys of a function of the kept ones is the sum over the tiles up to the diagonal. -/
theorem sum_kept (n : ℕ) (hn : n < 8) (μ : Fin 2) (r : Fin 1024) (f : ℕ → ℝ) :
    ∑ K ∈ Finset.range (1024 * n), f K * wgt q k μ r K
        + ∑ j : Fin 1024, f (1024 * n + j.val) * (if j.val / 64 ≤ r.val / 64 then wgt q k μ r (1024 * n + j.val) else 0)
      = ∑ K ∈ Finset.range 8192, f K * kept q k n μ r K := by
  have e1 : ∑ K ∈ Finset.range (1024 * n), f K * wgt q k μ r K = ∑ K ∈ Finset.range (1024 * n), f K * kept q k n μ r K :=
    Finset.sum_congr rfl fun K hK => by rw [kept_before q k n μ r K (Finset.mem_range.1 hK)]
  have e2 : ∀ j : Fin 1024, f (1024 * n + j.val) * (if j.val / 64 ≤ r.val / 64 then wgt q k μ r (1024 * n + j.val) else 0)
      = f (1024 * n + j.val) * kept q k n μ r (1024 * n + j.val) := fun j => by rw [kept_tile]
  rw [e1, Finset.sum_congr rfl fun j _ => e2 j, sum_tile (fun K => f K * kept q k n μ r K)]
  refine Finset.sum_subset (Finset.range_subset_range.2 (by omega)) fun K _ hK => ?_
  rw [kept_after q k n μ r K (by simpa using hK), mul_zero]

/-- The denominator of a row is positive: its own key is kept. -/
theorem kept_pos (n : ℕ) (hn : n < 8) (μ : Fin 2) (r : Fin 1024) : 0 < ∑ K ∈ Finset.range 8192, kept q k n μ r K := by
  refine Finset.sum_pos' (fun K _ => kept_nonneg q k n μ r K) ⟨0, by simp, ?_⟩
  rw [kept, if_pos (by omega)]
  exact wgt_pos q k μ r 0

/-- The attention of one map at query row `r` of tile `n`, dimension `d`. -/
def mean (n : ℕ) (μ : Fin 2) (r : Fin 1024) (d : Fin 128) : ℝ :=
  (∑ K ∈ Finset.range 8192, v (ix3 0 (key K) d) * kept q k n μ r K) / ∑ K ∈ Finset.range 8192, kept q k n μ r K

theorem quot_at (n : ℕ) (hn : n < 8) (μ : Fin 2) (r : Fin 1024) (d : Fin 128) :
    k0_pay23 (F := Ideal) (carry (F := Ideal) (up q) (up k) (up v) n).1 (carry (F := Ideal) (up q) (up k) (up v) n).2.1
      (carry (F := Ideal) (up q) (up k) (up v) n).2.2 (k0_pay19 (up q) (rows (F := Ideal) (up k) n))
      (k0_pay20 (iota .tc S1024x2048 32 [0] iota_S1024x2048_d0_w32) 0#32) k0_pay21 64#32 k0_pay22 0#32
      (k0_pay2 (F := Ideal) (rows (F := Ideal) (up v) n)) (ix2 d (col μ r))
      = ((mean q k v n μ r d : ℝ) : EReal) := by
  have ih := carry_stands q k v μ r d n
  generalize carry (F := Ideal) (up q) (up k) (up v) n = a at ih ⊢
  let t : Fin 1024 → EReal := fun x => if x.val / 64 ≤ r.val / 64 then
    ((∑ d : Fin 64, k (ix3 0 (key (1024 * n + x.val)) (dim μ d)) * q (ix3 0 r (dim μ d)) : ℝ) : EReal) else ⊥
  have htd : t = fun x => if x.val / 64 ≤ r.val / 64 then
    ((∑ d : Fin 64, k (ix3 0 (key (1024 * n + x.val)) (dim μ d)) * q (ix3 0 r (dim μ d)) : ℝ) : EReal) else ⊥ := rfl
  rw [quot_words a.1 a.2.1 a.2.2 _ _ _ _ _ d (col μ r) t (max (a.1 (ix2 0 (col μ r))) (Finset.univ.fold max ⊥ t))
    (by rw [htd]; funext x; rw [diag_score, diag_scores, tile_scores]) (by rw [start_bot])]
  simp only [tile_values]
  clear_value t
  have ht : ∀ x, t x ≠ ⊤ := fun x => by
    rw [htd]; dsimp only; split
    · exact EReal.coe_ne_top _
    · exact bot_ne_top
  have hb : t 0 ≠ ⊥ := by
    rw [htd]; dsimp only; rw [if_pos (by simp)]; exact EReal.coe_ne_bot _
  have hM := tile_max ih.1 t ht 0 hb
  have h := stands_step Finset.univ _ _ _ _ _ ih t (fun i _ => ht i)
    (fun x : Fin 1024 => v (ix3 0 (key (1024 * n + x.val)) d)) _ hM.1 hM.2
  have hw : ∀ x : Fin 1024, wt2 (t x) = if x.val / 64 ≤ r.val / 64 then wgt q k μ r (1024 * n + x.val) else 0 := fun x => by
    rw [htd]; dsimp only; split
    · rw [wt2_coe]; rfl
    · exact wt2_bot
  simp only [hw] at h
  have s1 := sum_kept q k n hn μ r fun _ => 1
  simp only [one_mul] at s1
  have s2 := sum_kept q k n hn μ r fun K => v (ix3 0 (key K) d)
  rw [s1, s2] at h
  exact stands_div _ _ _ _ _ h (kept_pos q k n hn μ r).ne'

/-- The stored block at row `r`, dimension `d`: one attention less the mixing weight times the other. -/
theorem OUT_at (n : ℕ) (hn : n < 8) (lam : ℝ) (r : Fin 1024) (d : Fin 128) :
    OUT (F := Ideal) n (fun _ => ((lam : ℝ) : EReal)) (up q) (up k) (up v) (ix3 0 r d)
      = ((mean q k v n 0 r d - lam * mean q k v n 1 r d : ℝ) : EReal) := by
  rw [OUT, outOf, out_at, first_at, quot_at q k v n hn, quot_at q k v n hn, EReal.coe_sub, EReal.coe_mul]

end Cert.Attn
-- ==== Proof.HostPrep.lean ====
/- The host code that prepares the kernel's operands, as functions of the arguments: the scaled queries, the keys and
   the values with their heads side by side, and the mixing weight. -/
module

public import proofs.«01_k».proof.Proof.Launch
public import proofs.«01_k».proof.Proof.Carry
public import Idealize.ShloMosaic.Lib.Claim

@[expose] public section

set_option maxRecDepth 16384

noncomputable section

namespace Cert.Attn

open Cert.KernelIdeal Cert.KernelIdeal.Gen
open Idealize.ShloMosaic Idealize.ShloMosaic.TcCoe
open Idealize.SL.Sem

section Stages
variable {F : FTy → Type} [FloatOps F] [Named F]

/-- The queries, scaled for exponentials base two. -/
def prepQ (x : FVec F S2x8192x8x2x64 .f32) : FVec F S2x8192x1024 .bf16 :=
  truncf .bf16 (mulf (shapeCast S2x8192x1024 x shapeCasts_S2x8192x8x2x64_S2x8192x1024)
    (broadcastInDim S2x8192x1024 ![] bcast_S_S2x8192x1024
      (Host.divf (constant S_ .f32 0x3E000000#32) (Host.log (constant S_ .f32 0x40000000#32))))) bitsLt_bf16_f32

/-- The keys. -/
def prepK (x : FVec F S2x8192x8x2x64 .f32) : FVec F S2x8192x1024 .bf16 :=
  truncf .bf16 (shapeCast S2x8192x1024 x shapeCasts_S2x8192x8x2x64_S2x8192x1024) bitsLt_bf16_f32

/-- The values. -/
def prepV (x : FVec F S2x8192x8x128 .f32) : FVec F S2x8192x1024 .bf16 :=
  truncf .bf16 (shapeCast S2x8192x1024 x shapeCasts_S2x8192x8x128_S2x8192x1024) bitsLt_bf16_f32

/-- The mixing weight. -/
def lamHost (a b c d : FVec F S64 .f32) : FVec F S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_)))
    (constant S_ .f32 0x3E4CCCCD#32)

variable (m : (ℓ : Loc nD τ sig) → Buf (Elt F) ℓ) (c : Dev nD)

theorem entry_q : V m c main_v14 = prepQ (m ((c.tc : Thread nD τ).loc main_arg0)) := by
  entry_read; rfl

theorem entry_k : V m c main_v16 = prepK (m ((c.tc : Thread nD τ).loc main_arg1)) := by
  entry_read; rfl

theorem entry_v : V m c main_v18 = prepV (m ((c.tc : Thread nD τ).loc main_arg2)) := by
  entry_read; rfl

theorem entry_lam : V m c main_v8
    = shapeCast S1x1 (lamHost (m ((c.tc : Thread nD τ).loc main_arg3)) (m ((c.tc : Thread nD τ).loc main_arg4))
      (m ((c.tc : Thread nD τ).loc main_arg5)) (m ((c.tc : Thread nD τ).loc main_arg6))) shapeCasts_S_S1x1 := by
  entry_read; rfl

end Stages

/-- The scale of the prepared queries: an eighth over the logarithm of two. -/
def scale : ℝ := 1 / 8 * (1 / Real.log 2)

/-- A logarithm's argument, two, -/
theorem two_word : Ideal.ofBits .f32 0x40000000#32 = ((2 : ℝ) : EReal) := by
  simp [Ideal.ofBits, Ideal.ieee]
  rw [← EReal.coe_mul]
  norm_num

/-- and the eighth. -/
theorem eighth_word : Ideal.ofBits .f32 0x3E000000#32 = ((1 / 8 : ℝ) : EReal) := by
  simp [Ideal.ofBits, Ideal.ieee]
  rw [← EReal.coe_mul]
  norm_num

theorem scale_word :
    Ideal.div (Ideal.ofBits .f32 0x3E000000#32) (Ideal.log (Ideal.ofBits .f32 0x40000000#32)) = ((scale : ℝ) : EReal) := by
  have h : Real.log 2 ≠ 0 := (Real.log_pos (by norm_num)).ne'
  rw [two_word, eighth_word, Ideal.log_coe, if_neg (by norm_num), Ideal.div_coe h, ← EReal.coe_mul]
  rfl

theorem prepQ_at (x : FVec Ideal S2x8192x8x2x64 .f32) (b : Fin 2) (i : Fin 8192) (n : Fin 1024) :
    prepQ x (ix3 b i n)
      = x (ix5 b i (⟨n.val / 128, by omega⟩ : Fin 8) (⟨n.val / 64 % 2, by omega⟩ : Fin 2) (⟨n.val % 64, by omega⟩ : Fin 64))
        * ((scale : ℝ) : EReal) := by
  rw [← scale_word]
  pointwise [prepQ]

theorem prepK_at (x : FVec Ideal S2x8192x8x2x64 .f32) (b : Fin 2) (i : Fin 8192) (n : Fin 1024) :
    prepK x (ix3 b i n)
      = x (ix5 b i (⟨n.val / 128, by omega⟩ : Fin 8) (⟨n.val / 64 % 2, by omega⟩ : Fin 2)
        (⟨n.val % 64, by omega⟩ : Fin 64)) := by
  pointwise [prepK]

theorem prepV_at (x : FVec Ideal S2x8192x8x128 .f32) (b : Fin 2) (i : Fin 8192) (n : Fin 1024) :
    prepV x (ix3 b i n) = x (ix4 b i (⟨n.val / 128, by omega⟩ : Fin 8) (⟨n.val % 128, by omega⟩ : Fin 128)) := by
  pointwise [prepV]

theorem lamHost_at (a b c d : FVec Ideal S64 .f32) :
    lamHost a b c d ix0 = Ideal.exp (∑ x : Fin 64, a (ix1 x) * b (ix1 x)) - Ideal.exp (∑ x : Fin 64, c (ix1 x) * d (ix1 x))
      + Ideal.ofBits .f32 0x3E4CCCCD#32 := by
  pointwise [lamHost]

/-- The mixing weight of finite vectors is a real number. -/
theorem lamHost_real (a b c d : S64.Idx → ℝ) :
    ∃ l : ℝ, lamHost (F := Ideal) (up a) (up b) (up c) (up d) ix0 = ((l : ℝ) : EReal) := by
  have z : ∃ z : ℝ, Ideal.ofBits .f32 0x3E4CCCCD#32 = ((z : ℝ) : EReal) := by
    simp [Ideal.ofBits, Ideal.ieee]
    exact ⟨_, (EReal.coe_mul _ _).symm⟩
  obtain ⟨z, hz⟩ := z
  rw [lamHost_at, hz]
  simp only [up, ← EReal.coe_mul, sum_coe, Ideal.exp_coe, ← EReal.coe_sub, ← EReal.coe_add]
  exact ⟨_, rfl⟩

end Cert.Attn
-- ==== Proof.RefStages.lean ====
/- The reference's result in stages, each a function of arrays: chunk numbers and the causal mask, masked scores, the
   softmax, the mixing weight, and the difference of the two attentions. -/
module

public import proofs.«01_k».proof.Proof.Gen.ReferenceIdeal.Run
public import Idealize.ShloMosaic.Lib.Pointwise

@[expose] public section

set_option maxRecDepth 16384

noncomputable section

namespace Cert.Attn.Ref

open Cert.ReferenceIdeal Cert.ReferenceIdeal.Gen
open Idealize.ShloMosaic Idealize.ShloMosaic.TcCoe Idealize.SL.Sem Idealize.ShloMosaic.StableHlo

variable {F : FTy → Type} [FloatOps F]

/-- The chunk of 64 each position lies in. -/
def chunks : IVec S8192 32 :=
  select
    (andi
      (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- Which keys (columns) a query (row) sees, from the chunk numbers. -/
def causal (ch : IVec S8192 32) : IVec S8192x8192 1 :=
  cmpi .sge
    (broadcastInDim S8192x8192 ![0, 1] bcast_S8192x1_S8192x8192_0_1 (broadcastInDim S8192x1 ![0] bcast_S8192_S8192x1_0 ch))
    (broadcastInDim S8192x8192 ![0, 1] bcast_S1x8192_S8192x8192_0_1 (broadcastInDim S1x8192 ![1] bcast_S8192_S1x8192_1 ch))

/-- The first half of every head, -/
def first (x : FVec F S2x8192x8x2x64 .f32) : FVec F S2x8192x8x64 .f32 :=
  shapeCast _ (extractStridedSlice S2x8192x8x1x64 ![0, 0, 0, 0, 0] x slices_S2x8192x8x2x64_S2x8192x8x1x64_0_0_0_0_0)
    shapeCasts_S2x8192x8x1x64_S2x8192x8x64

/-- and the second. -/
def second (x : FVec F S2x8192x8x2x64 .f32) : FVec F S2x8192x8x64 .f32 :=
  shapeCast _ (extractStridedSlice S2x8192x8x1x64 ![0, 0, 0, 1, 0] x slices_S2x8192x8x2x64_S2x8192x8x1x64_0_0_0_1_0)
    shapeCasts_S2x8192x8x1x64_S2x8192x8x64

/-- The scaled scores, minus infinity where masked. -/
def scores (mask : IVec S8192x8192 1) (q k : FVec F S2x8192x8x64 .f32) : FVec F S2x8x8192x8192 .f32 :=
  select (broadcastInDim S2x8x8192x8192 ![2, 3] bcast_S8192x8192_S2x8x8192x8192_2_3 mask)
    (mulf (Host.dotGeneral dot_S2x8192x8x64_S2x8192x8x64_S2x8x8192x8192_3_3_1_1_02_02 none q k)
      (broadcastInDim S2x8x8192x8192 ![] bcast_S_S2x8x8192x8192 (constant S_ .f32 0x3E000000#32)))
    (broadcastInDim S2x8x8192x8192 ![] bcast_S_S2x8x8192x8192 (id (constant S_ .f32 0xFF800000#32)))

/-- Each row's maximum. -/
def rowMax (s : FVec F S2x8x8192x8192 .f32) : FVec F S2x8x8192 .f32 :=
  maximumf (broadcastInDim S2x8x8192 ![] bcast_S_S2x8x8192 (constant S_ .f32 0xFF800000#32))
    (Host.reduce FloatOps.maximumf s (constant S_ .f32 0xFF800000#32) reducesTo_S2x8x8192x8192_S2x8x8192_d3 h_S_)

/-- A value per row, along the row. -/
def along (m : FVec F S2x8x8192 .f32) : FVec F S2x8x8192x8192 .f32 :=
  broadcastInDim S2x8x8192x8192 ![0, 1, 2, 3] bcast_S2x8x8192x1_S2x8x8192x8192_0_1_2_3
    (broadcastInDim S2x8x8192x1 ![0, 1, 2] bcast_S2x8x8192_S2x8x8192x1_0_1_2 m)

/-- The exponentials under the row maxima, -/
def exps (s : FVec F S2x8x8192x8192 .f32) : FVec F S2x8x8192x8192 .f32 := Host.exp (subf s (along (rowMax s)))

/-- over their sums. -/
def soft (e : FVec F S2x8x8192x8192 .f32) : FVec F S2x8x8192x8192 .f32 :=
  Host.divf e (along (Host.reduceAdd e (constant S_ .f32 0x00000000#32) reducesTo_S2x8x8192x8192_S2x8x8192_d3 h_S_))

/-- The mixing weight. -/
def lam (a b c d : FVec F S64 .f32) : FVec F S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_)))
    (constant S_ .f32 0x3E4CCCCD#32)

/-- The difference of the two attentions, applied to the values. -/
def mix (p1 p2 : FVec F S2x8x8192x8192 .f32) (l : FVec F S_ .f32) (v : FVec F S2x8192x8x128 .f32) :
    FVec F S2x8192x1024 .f32 :=
  shapeCast _ (transpose S2x8192x8x128 [0, 3, 1, 2]
    (Host.dotGeneral dot_S2x8192x8x128_S2x8x8192x8192_S2x8x128x8192_1_3_3_2_02_01 none v
      (subf p1 (mulf (broadcastInDim S2x8x8192x8192 ![] bcast_S_S2x8x8192x8192 l) p2)))
    transposes_S2x8x128x8192_S2x8192x8x128_0_3_1_2) shapeCasts_S2x8192x8x128_S2x8192x1024

/-- The whole reference. -/
def whole (q k : FVec F S2x8192x8x2x64 .f32) (v : FVec F S2x8192x8x128 .f32) (a b c d : FVec F S64 .f32) :
    FVec F S2x8192x1024 .f32 :=
  mix (soft (exps (scores (causal chunks) (first q) (first k)))) (soft (exps (scores (causal chunks) (second q) (second k))))
    (lam a b c d) v

set_option maxHeartbeats 4000000 in
theorem whole_eq (m : (ℓ : Loc nD τ sig) → Buf (Elt F) ℓ) (c : Dev nD) :
    Value.res_main_v58 m c
      = whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  unfold Value.res_main_v58 whole mix soft exps along rowMax scores causal chunks first second lam
  rfl

end Cert.Attn.Ref
-- ==== Proof.RefWords.lean ====
/- The reference's chunk numbers, evaluated: position divided by 64. -/
module

public import Idealize.ShloMosaic.Lib.Pointwise

@[expose] public section

set_option maxRecDepth 16384

namespace Cert.Attn.Ref

open Idealize.ShloMosaic

/-- A word's sign. -/
def signWord (w : BitVec 32) : BitVec 32 := if w = 0 then 0 else if w.msb = true then -1 else 1

/-- A word divided by 64, as the host spells the floor of the division. -/
def floorHost (w : BitVec 32) : BitVec 32 :=
  Scalar.select
    (IntOp.andi
      (IntOp.cmpi .ne (signWord w) (signWord 64#32))
      (IntOp.cmpi .ne (IntOp.remsi .host w 64#32) 0#32))
    (IntOp.subi (IntOp.divsi .host w 64#32) 1#32) (IntOp.divsi .host w 64#32)

theorem floorHost_tile : ∀ a : Fin 8, ∀ b : Fin 1024,
    floorHost (BitVec.ofNat 32 (1024 * a.val + b.val)) = BitVec.ofNat 32 ((1024 * a.val + b.val) / 64) := by
  decide +kernel

theorem floorHost_eq (i : Fin 8192) : floorHost (BitVec.ofNat 32 i.val) = BitVec.ofNat 32 (i.val / 64) := by
  have h := floorHost_tile ⟨i.val / 1024, by omega⟩ ⟨i.val % 1024, by omega⟩
  have e : 1024 * (i.val / 1024) + i.val % 1024 = i.val := by omega
  dsimp only at h
  rwa [e] at h

theorem chunk_le : ∀ a b : Fin 128,
    IntOp.cmpi .sge (BitVec.ofNat 32 a.val) (BitVec.ofNat 32 b.val) = if b.val ≤ a.val then 1#1 else 0#1 := by
  decide +kernel

/-- The mask's bit: the key's chunk is not after the query's. -/
theorem mask_bit (i j : Fin 8192) :
    IntOp.cmpi .sge (floorHost (BitVec.ofNat 32 i.val)) (floorHost (BitVec.ofNat 32 j.val))
      = if j.val / 64 ≤ i.val / 64 then 1#1 else 0#1 := by
  rw [floorHost_eq, floorHost_eq]
  exact chunk_le ⟨i.val / 64, by omega⟩ ⟨j.val / 64, by omega⟩

end Cert.Attn.Ref
-- ==== Proof.RefAt.lean ====
/- The reference's stages read at one index, over the extended reals. -/
module

public import proofs.«01_k».proof.Proof.RefStages
public import proofs.«01_k».proof.Proof.RefWords
public import proofs.«01_k».proof.Proof.Softmax

@[expose] public section

set_option maxRecDepth 16384

noncomputable section

namespace Cert.Attn.Ref

open Cert.ReferenceIdeal Cert.ReferenceIdeal.Gen
open Idealize.ShloMosaic

theorem chunks_at (i : Fin 8192) : chunks (ix1 i) = floorHost (BitVec.ofNat 32 i.val) := by
  pointwise [chunks]
  rfl

theorem causal_at (ch : IVec S8192 32) (i k : Fin 8192) :
    causal ch (ix2 i k) = IntOp.cmpi .sge (ch (ix1 i)) (ch (ix1 k)) := by
  pointwise [causal]

theorem first_at (x : FVec Ideal S2x8192x8x2x64 .f32) (b : Fin 2) (i : Fin 8192) (h : Fin 8) (d : Fin 64) :
    first x (ix4 b i h d) = x (ix5 b i h 0 d) := by
  pointwise [first]
theorem second_at (x : FVec Ideal S2x8192x8x2x64 .f32) (b : Fin 2) (i : Fin 8192) (h : Fin 8) (d : Fin 64) :
    second x (ix4 b i h d) = x (ix5 b i h 1 d) := by
  pointwise [second]

theorem scores_at (mask : IVec S8192x8192 1) (q k : FVec Ideal S2x8192x8x64 .f32) (b : Fin 2) (h : Fin 8) (i j : Fin 8192) :
    scores mask q k (ix4 b h i j)
      = Scalar.select (mask (ix2 i j))
        ((∑ d : Fin 64, q (ix4 b i h d) * k (ix4 b j h d)) * Ideal.ofBits .f32 0x3E000000#32) (Ideal.ofBits .f32 0xFF800000#32) := by
  pointwise [scores]
  rfl

/-- A reduction by maximum of values below `⊤`, one of them above `⊥`, is a real number. -/
theorem reduce_real {s : Shape} {t u : Shape} {axes : List (Fin s.rank)} (x : s.Idx → EReal) (init : u.Idx → EReal) (h : s.ReducesTo axes t)
    (hu : 0 < u.numel) (j : t.Idx) (hi : ∀ i, init i ≠ ⊤) (hx : ∀ i, x i ≠ ⊤) (i₀ : s.Idx) (h₀ : h.drop i₀ = j)
    (hb : x i₀ ≠ ⊥) :
    Host.reduce (FloatOps.maximumf (F := Ideal) (φ := .f32)) x init h hu j ≠ (⊤ : EReal)
      ∧ Host.reduce (FloatOps.maximumf (F := Ideal) (φ := .f32)) x init h hu j ≠ (⊥ : EReal) := by
  rw [Ideal.maximumf_eq_max, Host.reduce_eq_fold]
  exact ⟨fold_max_ne_top _ _ _ (hi _) fun i _ => hx i,
    fold_max_ne_bot _ _ _ i₀ (by simp [h₀]) hb⟩

theorem maximumf_at {s : Shape} (x y : FVec Ideal s .f32) (i : s.Idx) : maximumf x y i = max (x i : EReal) (y i) := rfl

theorem start_bot : Ideal.ofBits .f32 0xFF800000#32 = (⊥ : EReal) := by
  simp [Ideal.ofBits, Ideal.ieee]

theorem rowMax_real (s : FVec Ideal S2x8x8192x8192 .f32) (b : Fin 2) (h : Fin 8) (i : Fin 8192) (hs : ∀ y, s y ≠ (⊤ : EReal))
    (j : Fin 8192) (hj : s (ix4 b h i j) ≠ (⊥ : EReal)) :
    rowMax s (ix3 b h i) ≠ (⊤ : EReal) ∧ rowMax s (ix3 b h i) ≠ (⊥ : EReal) := by
  have h0 := reducesTo_S2x8x8192x8192_S2x8x8192_d3
  have e : h0.drop (ix4 b h i j) = ix3 b h i := by
    funext a
    match a with
    | ⟨0, _⟩ => rfl
    | ⟨1, _⟩ => rfl
    | ⟨2, _⟩ => rfl
  have hr := reduce_real (u := S_) s (constant (F := Ideal) S_ .f32 0xFF800000#32) h0 h_S_ (ix3 b h i)
    (fun _ => by show Ideal.ofBits .f32 0xFF800000#32 ≠ (⊤ : EReal); rw [start_bot]; exact bot_ne_top) hs (ix4 b h i j) e hj
  have z : (broadcastInDim S2x8x8192 ![] bcast_S_S2x8x8192 (constant (F := Ideal) S_ .f32 0xFF800000#32)) (ix3 b h i)
      = (⊥ : EReal) := start_bot
  rw [rowMax, maximumf_at, z, max_eq_right bot_le]
  exact hr

theorem along_at (m : FVec Ideal S2x8x8192 .f32) (b : Fin 2) (h : Fin 8) (i j : Fin 8192) :
    along m (ix4 b h i j) = m (ix3 b h i) := by
  pointwise [along]

theorem exps_at (s : FVec Ideal S2x8x8192x8192 .f32) (b : Fin 2) (h : Fin 8) (i j : Fin 8192) :
    exps s (ix4 b h i j) = Ideal.exp (s (ix4 b h i j) - rowMax s (ix3 b h i)) := by
  rw [← along_at (rowMax s) b h i j]
  pointwise [exps]

theorem soft_at (e : FVec Ideal S2x8x8192x8192 .f32) (b : Fin 2) (h : Fin 8) (i j : Fin 8192) :
    soft e (ix4 b h i j) = Ideal.div (e (ix4 b h i j)) (∑ x : Fin 8192, e (ix4 b h i x)) := by
  pointwise [soft, along]

theorem mix_at (p1 p2 : FVec Ideal S2x8x8192x8192 .f32) (l : FVec Ideal S_ .f32) (v : FVec Ideal S2x8192x8x128 .f32)
    (b : Fin 2) (h : Fin 8) (i : Fin 8192) (d : Fin 128) :
    mix p1 p2 l v (ix3 b i (⟨128 * h.val + d.val, by omega⟩ : Fin 1024))
      = ∑ x : Fin 8192, v (ix4 b x h d) * (p1 (ix4 b h i x) - l ix0 * p2 (ix4 b h i x)) := by
  pointwise [mix]

end Cert.Attn.Ref
-- ==== Proof.RefValue.lean ====
/- The reference over finite arguments, as real numbers. -/
module

public import proofs.«01_k».proof.Proof.RefAt

@[expose] public section

set_option maxRecDepth 16384

noncomputable section

namespace Cert.Attn.Ref

open Cert.ReferenceIdeal Cert.ReferenceIdeal.Gen
open Idealize.ShloMosaic

/-- The scale of the scores, an eighth. -/
theorem eighth : Ideal.ofBits .f32 0x3E000000#32 = ((1 / 8 : ℝ) : EReal) := by
  simp [Ideal.ofBits, Ideal.ieee]
  rw [← EReal.coe_mul]
  norm_num

/-- The unnormalised softmax weight of key `j` for query `i`. -/
def weight (q k : S2x8192x8x64.Idx → ℝ) (b : Fin 2) (h : Fin 8) (i j : Fin 8192) : ℝ :=
  if j.val / 64 ≤ i.val / 64 then Real.exp ((∑ d : Fin 64, q (ix4 b i h d) * k (ix4 b j h d)) * (1 / 8)) else 0

theorem weight_nonneg (q k : S2x8192x8x64.Idx → ℝ) (b : Fin 2) (h : Fin 8) (i j : Fin 8192) : 0 ≤ weight q k b h i j := by
  rw [weight]; split
  · exact (Real.exp_pos _).le
  · exact le_rfl

theorem weight_pos (q k : S2x8192x8x64.Idx → ℝ) (b : Fin 2) (h : Fin 8) (i : Fin 8192) :
    0 < ∑ j, weight q k b h i j := by
  refine Finset.sum_pos' (fun j _ => weight_nonneg q k b h i j) ⟨i, Finset.mem_univ _, ?_⟩
  rw [weight, if_pos le_rfl]
  exact Real.exp_pos _

theorem scores_real (q k : S2x8192x8x64.Idx → ℝ) (b : Fin 2) (h : Fin 8) (i j : Fin 8192) :
    scores (F := Ideal) (causal chunks) (up q) (up k) (ix4 b h i j)
      = if j.val / 64 ≤ i.val / 64 then
          (((∑ d : Fin 64, q (ix4 b i h d) * k (ix4 b j h d)) * (1 / 8) : ℝ) : EReal) else ⊥ := by
  rw [scores_at, causal_at, chunks_at, chunks_at, mask_bit, eighth, start_bot, EReal.coe_mul, ← sum_coe]
  simp only [up, ← EReal.coe_mul]
  by_cases hc : j.val / 64 ≤ i.val / 64 <;> simp [hc, Scalar.select]

theorem soft_real (q k : S2x8192x8x64.Idx → ℝ) (b : Fin 2) (h : Fin 8) (i j : Fin 8192) :
    soft (exps (scores (F := Ideal) (causal chunks) (up q) (up k))) (ix4 b h i j)
      = ((weight q k b h i j / ∑ x, weight q k b h i x : ℝ) : EReal) := by
  have hs : ∀ y, scores (F := Ideal) (causal chunks) (up q) (up k) y ≠ (⊤ : EReal) := fun y => by
    obtain ⟨b', h', i', j', rfl⟩ : ∃ b' h' i' j', y = ix4 b' h' i' j' := ⟨y 0, y 1, y 2, y 3, eq_ix4 y⟩
    rw [scores_real]; split
    · exact EReal.coe_ne_top _
    · exact bot_ne_top
  have hj : scores (F := Ideal) (causal chunks) (up q) (up k) (ix4 b h i i) ≠ (⊥ : EReal) := by
    rw [scores_real, if_pos le_rfl]; exact EReal.coe_ne_bot _
  have hM := rowMax_real _ b h i hs i hj
  rw [soft_at]
  simp only [exps_at]
  have hw : ∀ x, wte (scores (F := Ideal) (causal chunks) (up q) (up k) (ix4 b h i x)) = weight q k b h i x := fun x => by
    rw [scores_real, weight]; split
    · exact wte_coe _
    · exact wte_bot
  have hd := softmax_div Finset.univ (fun x : Fin 8192 => scores (F := Ideal) (causal chunks) (up q) (up k) (ix4 b h i x))
    (fun x _ => hs _) _ hM.1 hM.2 (by simp only [hw]; exact (weight_pos q k b h i).ne') j (Finset.mem_univ _)
  simp only [hw] at hd
  exact hd

/-- One of the two attentions at a query and a dimension of a head. -/
def att (q k : S2x8192x8x64.Idx → ℝ) (v : S2x8192x8x128.Idx → ℝ) (b : Fin 2) (h : Fin 8) (i : Fin 8192) (d : Fin 128) : ℝ :=
  (∑ j, v (ix4 b j h d) * weight q k b h i j) / ∑ j, weight q k b h i j

/-- Half `μ` of every head. -/
def half (μ : Fin 2) (q : S2x8192x8x2x64.Idx → ℝ) : S2x8192x8x64.Idx → ℝ := fun y => q (ix5 (y 0) (y 1) (y 2) μ (y 3))

theorem first_real (q : S2x8192x8x2x64.Idx → ℝ) : first (F := Ideal) (up q) = up (half 0 q) := by
  funext y
  obtain ⟨b, i, h, d, rfl⟩ : ∃ b i h d, y = ix4 b i h d := ⟨y 0, y 1, y 2, y 3, eq_ix4 y⟩
  rw [first_at]
  rfl

theorem second_real (q : S2x8192x8x2x64.Idx → ℝ) : second (F := Ideal) (up q) = up (half 1 q) := by
  funext y
  obtain ⟨b, i, h, d, rfl⟩ : ∃ b i h d, y = ix4 b i h d := ⟨y 0, y 1, y 2, y 3, eq_ix4 y⟩
  rw [second_at]
  rfl

/-- The reference at batch `b`, position `i`, head `h`, dimension `d`. -/
theorem whole_at (q k : S2x8192x8x2x64.Idx → ℝ) (v : S2x8192x8x128.Idx → ℝ) (a₁ a₂ a₃ a₄ : FVec Ideal S64 .f32) (l : ℝ)
    (hl : lam a₁ a₂ a₃ a₄ ix0 = ((l : ℝ) : EReal)) (b : Fin 2) (h : Fin 8) (i : Fin 8192) (d : Fin 128) :
    whole (F := Ideal) (up q) (up k) (up v) a₁ a₂ a₃ a₄ (ix3 b i (⟨128 * h.val + d.val, by omega⟩ : Fin 1024))
      = ((att (half 0 q) (half 0 k) v b h i d - l * att (half 1 q) (half 1 k) v b h i d : ℝ) : EReal) := by
  rw [whole, mix_at, first_real, first_real, second_real, second_real, hl]
  simp only [soft_real, up, ← EReal.coe_mul, ← EReal.coe_sub]
  rw [sum_coe]
  congr 1
  simp only [mul_sub, Finset.sum_sub_distrib, att]
  congr 1
  · rw [Finset.sum_div]
    exact Finset.sum_congr rfl fun j _ => by ring
  · rw [Finset.sum_div, Finset.mul_sum]
    exact Finset.sum_congr rfl fun j _ => by ring

end Cert.Attn.Ref
-- ==== Proof.Value.lean ====
/- What the kernel leaves in its output array over finite arguments, as real numbers: at every element the plain
   attention's formula. -/
module

public import proofs.«01_k».proof.Proof.HostPrep
public import proofs.«01_k».proof.Proof.RefValue

@[expose] public section

set_option maxRecDepth 16384

noncomputable section

namespace Cert.Attn

open Cert.KernelIdeal Cert.KernelIdeal.Gen
open Idealize.ShloMosaic Idealize.ShloMosaic.TcCoe
open Idealize.SL.Sem

/-- The query block of a grid point, -/
def qBlk (q : S2x8192x8x2x64.Idx → ℝ) (b : Fin 2) (h n : Fin 8) : S1x1024x128.Idx → ℝ := fun y =>
  have hy1 : (y 1).val < 1024 := (y 1).isLt
  have hy2 : (y 2).val < 128 := (y 2).isLt
  q (ix5 b (⟨1024 * n.val + (y 1).val, by omega⟩ : Fin 8192) (⟨(128 * h.val + (y 2).val) / 128, by omega⟩ : Fin 8)
    (⟨(128 * h.val + (y 2).val) / 64 % 2, by omega⟩ : Fin 2) (⟨(128 * h.val + (y 2).val) % 64, by omega⟩ : Fin 64)) * scale

/-- the keys of its head, -/
def kBlk (k : S2x8192x8x2x64.Idx → ℝ) (b : Fin 2) (h : Fin 8) : S1x8192x128.Idx → ℝ := fun y =>
  have hy2 : (y 2).val < 128 := (y 2).isLt
  k (ix5 b (y 1) (⟨(128 * h.val + (y 2).val) / 128, by omega⟩ : Fin 8)
    (⟨(128 * h.val + (y 2).val) / 64 % 2, by omega⟩ : Fin 2) (⟨(128 * h.val + (y 2).val) % 64, by omega⟩ : Fin 64))

/-- and the values. -/
def vBlk (v : S2x8192x8x128.Idx → ℝ) (b : Fin 2) (h : Fin 8) : S1x8192x128.Idx → ℝ := fun y =>
  have hy2 : (y 2).val < 128 := (y 2).isLt
  v (ix4 b (y 1) (⟨(128 * h.val + (y 2).val) / 128, by omega⟩ : Fin 8) (⟨(128 * h.val + (y 2).val) % 128, by omega⟩ : Fin 128))

theorem queryBlk_real (q : S2x8192x8x2x64.Idx → ℝ) (b : Fin 2) (h n : Fin 8) :
    queryBlk (F := Ideal) (prepQ (F := Ideal) (up q)) b h n = up (qBlk q b h n) := by
  funext y
  refine (prepQ_at _ _ _ _).trans ?_
  exact (EReal.coe_mul _ _).symm

theorem keyBlk_real (k : S2x8192x8x2x64.Idx → ℝ) (b : Fin 2) (h : Fin 8) :
    headBlk (F := Ideal) (prepK (F := Ideal) (up k)) b h = up (kBlk k b h) := by
  funext y
  exact prepK_at _ _ _ _

theorem valueBlk_real (v : S2x8192x8x128.Idx → ℝ) (b : Fin 2) (h : Fin 8) :
    headBlk (F := Ideal) (prepV (F := Ideal) (up v)) b h = up (vBlk v b h) := by
  funext y
  exact prepV_at _ _ _ _

theorem qBlk_at (q : S2x8192x8x2x64.Idx → ℝ) (b : Fin 2) (h n : Fin 8) (r : Fin 1024) (μ : Fin 2) (d : Fin 64) :
    qBlk q b h n (ix3 0 r (dim μ d)) = q (ix5 b (⟨1024 * n.val + r.val, by omega⟩ : Fin 8192) h μ d) * scale := by
  have e1 : (⟨(128 * h.val + (dim μ d).val) / 128, by omega⟩ : Fin 8) = h := Fin.ext (by simp only [dim]; omega)
  have e2 : (⟨(128 * h.val + (dim μ d).val) / 64 % 2, by omega⟩ : Fin 2) = μ := Fin.ext (by simp only [dim]; omega)
  have e3 : (⟨(128 * h.val + (dim μ d).val) % 64, by omega⟩ : Fin 64) = d := Fin.ext (by simp only [dim]; omega)
  show q (ix5 b _ (⟨(128 * h.val + (dim μ d).val) / 128, _⟩ : Fin 8) (⟨(128 * h.val + (dim μ d).val) / 64 % 2, _⟩ : Fin 2)
    (⟨(128 * h.val + (dim μ d).val) % 64, _⟩ : Fin 64)) * scale = _
  rw [e1, e2, e3]
  rfl

theorem kBlk_at (k : S2x8192x8x2x64.Idx → ℝ) (b : Fin 2) (h : Fin 8) (K : Fin 8192) (μ : Fin 2) (d : Fin 64) :
    kBlk k b h (ix3 0 K (dim μ d)) = k (ix5 b K h μ d) := by
  have e1 : (⟨(128 * h.val + (dim μ d).val) / 128, by omega⟩ : Fin 8) = h := Fin.ext (by simp only [dim]; omega)
  have e2 : (⟨(128 * h.val + (dim μ d).val) / 64 % 2, by omega⟩ : Fin 2) = μ := Fin.ext (by simp only [dim]; omega)
  have e3 : (⟨(128 * h.val + (dim μ d).val) % 64, by omega⟩ : Fin 64) = d := Fin.ext (by simp only [dim]; omega)
  show k (ix5 b _ (⟨(128 * h.val + (dim μ d).val) / 128, _⟩ : Fin 8) (⟨(128 * h.val + (dim μ d).val) / 64 % 2, _⟩ : Fin 2)
    (⟨(128 * h.val + (dim μ d).val) % 64, _⟩ : Fin 64)) = _
  rw [e1, e2, e3]
  rfl

theorem vBlk_at (v : S2x8192x8x128.Idx → ℝ) (b : Fin 2) (h : Fin 8) (K : Fin 8192) (d : Fin 128) :
    vBlk v b h (ix3 0 K d) = v (ix4 b K h d) := by
  have e1 : (⟨(128 * h.val + d.val) / 128, by omega⟩ : Fin 8) = h := Fin.ext (by dsimp only; omega)
  have e2 : (⟨(128 * h.val + d.val) % 128, by omega⟩ : Fin 128) = d := Fin.ext (by dsimp only; omega)
  show v (ix4 b _ (⟨(128 * h.val + d.val) / 128, _⟩ : Fin 8) (⟨(128 * h.val + d.val) % 128, _⟩ : Fin 128)) = _
  rw [e1, e2]
  rfl

theorem key_val (K : Fin 8192) : key K.val = K := Fin.ext (Nat.mod_eq_of_lt K.isLt)

/-- A power of two of a prepared score is the exponential of the plain one. -/
theorem wgt_eq (q k : S2x8192x8x2x64.Idx → ℝ) (b : Fin 2) (h n : Fin 8) (μ : Fin 2) (r : Fin 1024) (K : Fin 8192) :
    wgt (qBlk q b h n) (kBlk k b h) μ r K.val
      = Real.exp ((∑ d : Fin 64, Ref.half μ q (ix4 b (⟨1024 * n.val + r.val, by omega⟩ : Fin 8192) h d)
          * Ref.half μ k (ix4 b K h d)) * (1 / 8)) := by
  have hl : Real.log 2 ≠ 0 := (Real.log_pos (by norm_num)).ne'
  rw [wgt, key_val]
  simp only [qBlk_at, kBlk_at]
  have e : ∀ x : ℝ, Real.rpow 2 x = Real.exp (Real.log 2 * x) := fun x => Real.rpow_def_of_pos (by norm_num) x
  rw [e]
  congr 1
  rw [Finset.mul_sum, Finset.sum_mul]
  refine Finset.sum_congr rfl fun d _ => ?_
  have e1 : Ref.half μ q (ix4 b (⟨1024 * n.val + r.val, by omega⟩ : Fin 8192) h d)
    = q (ix5 b (⟨1024 * n.val + r.val, by omega⟩ : Fin 8192) h μ d) := rfl
  have e2 : Ref.half μ k (ix4 b K h d) = k (ix5 b K h μ d) := rfl
  rw [e1, e2, scale]
  field_simp

/-- The kernel's attention of one map is the plain one. -/
theorem mean_eq (q k : S2x8192x8x2x64.Idx → ℝ) (v : S2x8192x8x128.Idx → ℝ) (b : Fin 2) (h n : Fin 8) (μ : Fin 2)
    (r : Fin 1024) (d : Fin 128) :
    mean (qBlk q b h n) (kBlk k b h) (vBlk v b h) n.val μ r d
      = Ref.att (Ref.half μ q) (Ref.half μ k) v b h (⟨1024 * n.val + r.val, by omega⟩ : Fin 8192) d := by
  have hk : ∀ K : Fin 8192, kept (qBlk q b h n) (kBlk k b h) n.val μ r K.val
      = Ref.weight (Ref.half μ q) (Ref.half μ k) b h (⟨1024 * n.val + r.val, by omega⟩ : Fin 8192) K := fun K => by
    rw [kept, Ref.weight, wgt_eq]
  rw [mean, Ref.att, Finset.sum_range, Finset.sum_range]
  simp only [hk, key_val, vBlk_at]

/-- The array the kernel is to leave. -/
def result (q k : S2x8192x8x2x64.Idx → ℝ) (v : S2x8192x8x128.Idx → ℝ) (l : ℝ) : S2x8192x1024.Idx → EReal := fun y =>
  have hy : (y 2).val < 1024 := (y 2).isLt
  ((Ref.att (Ref.half 0 q) (Ref.half 0 k) v (y 0) (⟨(y 2).val / 128, by omega⟩ : Fin 8) (y 1)
      (⟨(y 2).val % 128, by omega⟩ : Fin 128)
    - l * Ref.att (Ref.half 1 q) (Ref.half 1 k) v (y 0) (⟨(y 2).val / 128, by omega⟩ : Fin 8) (y 1)
      (⟨(y 2).val % 128, by omega⟩ : Fin 128) : ℝ) : EReal)

variable (m : (ℓ : Loc nD τ sig) → Buf (Elt Ideal) ℓ) (c : Dev nD)

theorem final (q k : S2x8192x8x2x64.Idx → ℝ) (v : S2x8192x8x128.Idx → ℝ) (l : ℝ)
    (hq : m ((c.tc : Thread nD τ).loc main_arg0) = up q) (hk : m ((c.tc : Thread nD τ).loc main_arg1) = up k)
    (hv : m ((c.tc : Thread nD τ).loc main_arg2) = up v)
    (hl : lamHost (F := Ideal) (m ((c.tc : Thread nD τ).loc main_arg3)) (m ((c.tc : Thread nD τ).loc main_arg4))
      (m ((c.tc : Thread nD τ).loc main_arg5)) (m ((c.tc : Thread nD τ).loc main_arg6)) ix0 = ((l : ℝ) : EReal)) :
    (dats m 0 c).arrAt 4 (cfgs 0).N = result q k v l := by
  refine (dats m 0 c).arrAt_eq_of_covers 4 _ (by decide +kernel) fun t _ y => ?_
  blk_simp
  rw [after4]
  obtain ⟨z, r, d, rfl⟩ : ∃ (z : Fin 1) (r : Fin 1024) (d : Fin 128), y = ix3 z r d := ⟨y 0, y 1, y 2, eq_ix3 y⟩
  have hz : z = 0 := Subsingleton.elim _ _
  subst hz
  refine Eq.trans (b := result q k v l (ix3 (bOf t) (⟨1024 * (iOf t).val + r.val, by have := (iOf t).isLt; omega⟩ : Fin 8192)
    (⟨128 * (hOf t).val + d.val, by have := (hOf t).isLt; omega⟩ : Fin 1024))) ?_ ?_
  · have e0 : iblk m c 0 t = fun _ => ((l : ℝ) : EReal) := by
      rw [iblk0, entry_lam]
      funext y
      rw [← hl]
      exact congrArg (lamHost _ _ _ _) (funext fun a => Fin.elim0 a)
    have e1 : iblk m c 1 t = up (qBlk q (bOf t) (hOf t) (iOf t)) := by
      rw [iblk1, entry_q, hq, queryBlk_real]
    have e2 : iblk m c 2 t = up (kBlk k (bOf t) (hOf t)) := by
      rw [iblk2, entry_k, hk, keyBlk_real]
    have e3 : iblk m c 3 t = up (vBlk v (bOf t) (hOf t)) := by
      rw [iblk3, entry_v, hv, valueBlk_real]
    rw [outAt, e0, e1, e2, e3]
    refine (OUT_at (qBlk q (bOf t) (hOf t) (iOf t)) (kBlk k (bOf t) (hOf t)) (vBlk v (bOf t) (hOf t)) (t.val % 8)
      (by omega) l r d).trans ?_
    rw [show t.val % 8 = (iOf t).val from rfl, mean_eq, mean_eq]
    have n1 : (⟨(128 * (hOf t).val + d.val) / 128, by have := (hOf t).isLt; omega⟩ : Fin 8) = hOf t :=
      Fin.ext (by dsimp only; omega)
    have n2 : (⟨(128 * (hOf t).val + d.val) % 128, by omega⟩ : Fin 128) = d := Fin.ext (by dsimp only; omega)
    show _ = ((Ref.att _ _ v _ (⟨(128 * (hOf t).val + d.val) / 128, _⟩ : Fin 8) _
        (⟨(128 * (hOf t).val + d.val) % 128, _⟩ : Fin 128)
      - l * Ref.att _ _ v _ (⟨(128 * (hOf t).val + d.val) / 128, _⟩ : Fin 8) _
        (⟨(128 * (hOf t).val + d.val) % 128, _⟩ : Fin 128) : ℝ) : EReal)
    rw [n1, n2]
    rfl
  · unfold bOf hOf iOf
    blk_ext [idx t]

end Cert.Attn
-- ==== Proof.Finite.lean ====
/- The precondition, read element by element: every element of every argument is a real number. -/
module

public import proofs.«01_k».proof.Defs
public import proofs.«01_k».proof.Proof.Softmax

@[expose] public section

set_option maxRecDepth 16384

noncomputable section

namespace Cert.Attn

open Idealize.ShloMosaic

/-- The three broadcasts of the precondition. -/
theorem finiteFacts : Cert.Pre_finite.Facts := ⟨by decide, by decide, by decide⟩

/-- An extended real whose absolute value is below infinity is a real. -/
theorem real_of_abs (x : EReal) (h : max x (-x) < ⊤) : ((x.toReal : ℝ) : EReal) = x := by
  induction x with
  | bot => simp at h
  | top => simp at h
  | coe r => rfl

/-- The word of infinity. -/
theorem inf_word : Ideal.ofBits .f32 0x7F800000#32 = ⊤ := by simp [Ideal.ofBits, Ideal.ieee]

/-- An array whose every element compares below infinity in absolute value is an array of reals. -/
theorem real_of_cmp {S T : Shape} {δ : Fin T.rank → Fin S.rank} (hb : T.BroadcastsInDim S δ) (x : FVec Ideal S .f32)
    (h : cmpf .olt (Host.absf x) (broadcastInDim S δ hb (constant (F := Ideal) T .f32 0x7F800000#32)) = fun _ => 1#1) :
    x = up fun y => EReal.toReal (x y) := by
  funext y
  have hy : BitVec.ofBool (decide (max (x y) (-(x y)) < Ideal.ofBits .f32 0x7F800000#32)) = 1#1 := congrFun h y
  rw [inf_word] at hy
  refine (real_of_abs (x y) ?_).symm
  by_contra hn
  rw [decide_eq_false hn] at hy
  exact absurd hy (by decide)

open Cert.KernelIdeal in
/-- Under the precondition every argument is an array of reals. -/
theorem args_real [hPre : Cert.Pre_finite.Facts] (m : (ℓ : Loc nD τ sig) → Buf (Elt Ideal) ℓ) (hpre : Cert.Pre_KernelIdeal_finite m)
    (c : Dev nD) :
    (∃ q, m ((c.tc : Thread nD τ).loc main_arg0) = up q) ∧ (∃ k, m ((c.tc : Thread nD τ).loc main_arg1) = up k)
      ∧ (∃ v, m ((c.tc : Thread nD τ).loc main_arg2) = up v) ∧ (∃ a, m ((c.tc : Thread nD τ).loc main_arg3) = up a)
      ∧ (∃ a, m ((c.tc : Thread nD τ).loc main_arg4) = up a) ∧ (∃ a, m ((c.tc : Thread nD τ).loc main_arg5) = up a)
      ∧ (∃ a, m ((c.tc : Thread nD τ).loc main_arg6) = up a) := by
  obtain ⟨h0, h1, h2, h3, h4, h5, h6⟩ := hpre c
  exact ⟨⟨_, real_of_cmp _ _ h0⟩, ⟨_, real_of_cmp _ _ h1⟩, ⟨_, real_of_cmp _ _ h2⟩, ⟨_, real_of_cmp _ _ h3⟩,
    ⟨_, real_of_cmp _ _ h4⟩, ⟨_, real_of_cmp _ _ h5⟩, ⟨_, real_of_cmp _ _ h6⟩⟩

end Cert.Attn

end
-- ==== Proof.Claims.lean ====
/- The claims: the frames, the two sites of the idealization, and the equality of the two programs' results. -/
module

public import proofs.«01_k».proof.Defs
public import proofs.«01_k».proof.Proof.Plain.Launch
public import proofs.«01_k».proof.Proof.Gen.ReferenceIdeal.Run
public import proofs.«01_k».proof.Proof.Value
public import proofs.«01_k».proof.Proof.Finite
public import Idealize.ShloMosaic.Lib.Claim

@[expose] public section

set_option maxRecDepth 16384

noncomputable section

namespace Cert.Attn

open Idealize.ShloMosaic Idealize.SL.Sem

/-- The reference, over real arguments, is the same array of reals as the kernel's result. -/
theorem whole_result (q k : Cert.KernelIdeal.S2x8192x8x2x64.Idx → ℝ) (v : Cert.KernelIdeal.S2x8192x8x128.Idx → ℝ)
    (a₁ a₂ a₃ a₄ : FVec Ideal Cert.KernelIdeal.S64 .f32) (l : ℝ) (hl : lamHost a₁ a₂ a₃ a₄ ix0 = ((l : ℝ) : EReal)) :
    Ref.whole (F := Ideal) (up q) (up k) (up v) a₁ a₂ a₃ a₄ = result q k v l := by
  funext y
  obtain ⟨b, i, n, rfl⟩ : ∃ (b : Fin 2) (i : Fin 8192) (n : Fin 1024), y = ix3 b i n := ⟨y 0, y 1, y 2, eq_ix3 y⟩
  have hn : n = (⟨128 * (⟨n.val / 128, by omega⟩ : Fin 8).val + (⟨n.val % 128, by omega⟩ : Fin 128).val,
      by dsimp only; omega⟩ : Fin 1024) := Fin.ext (by dsimp only; omega)
  have h := Ref.whole_at q k v a₁ a₂ a₃ a₄ l hl b (⟨n.val / 128, by omega⟩ : Fin 8) i (⟨n.val % 128, by omega⟩ : Fin 128)
  rw [← hn] at h
  exact h

/-- The kernel as it is: the frame. -/
theorem frame_p : @Cert.quiescent_Kernel Cert.Kernel.Gen.facts := fun m g _ =>
  Plain.frame_run m g

/-- The kernel over the extended reals: the frame. -/
theorem frame_pi : @Cert.quiescent_KernelIdeal Cert.KernelIdeal.Gen.facts := fun m g _ => frame_run m g

theorem frame_pi_finite : @Cert.quiescent_KernelIdeal_pre_finite Cert.KernelIdeal.Gen.facts finiteFacts :=
  fun m g _ => frame_run m g

/-- The reference: the frame. It declares no semaphore. -/
theorem frame_ri : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_finite : @Cert.quiescent_ReferenceIdeal_pre_finite Cert.ReferenceIdeal.Gen.facts finiteFacts :=
  fun m g _ => frame_ri m g trivial

/-- The mask constant stands for minus infinity. -/
theorem preserves : Cert.preserves_Kernel_KernelIdeal :=
  IdealRules.named_const.statement Cert.KernelIdeal.κ "mask" .f32 0xF149F2CA#32 ⊥ rfl

/-- The two programs end with the same array. -/
theorem algebraic : @Cert.algebraic_KernelIdeal_ReferenceIdeal_pre_finite Cert.KernelIdeal.Gen.facts
    Cert.ReferenceIdeal.Gen.facts finiteFacts := by
  pair_intro
  · run_from run_main m g
  · run_from Cert.ReferenceIdeal.Value.run m' g'
    obtain ⟨⟨q, hq⟩, ⟨k, hk⟩, ⟨v, hv⟩, ⟨a₁, h₁⟩, ⟨a₂, h₂⟩, ⟨a₃, h₃⟩, ⟨a₄, h₄⟩⟩ := args_real (hPre := finiteFacts) m hpre c
    obtain ⟨e0, e1, e2, e3, e4, e5, e6⟩ := hagree c
    obtain ⟨l, hl⟩ := lamHost_real a₁ a₂ a₃ a₄
    rw [final m c q k v l hq hk hv (by rw [h₁, h₂, h₃, h₄]; exact hl), Ref.whole_eq, e0, e1, e2, e3, e4, e5, e6, hq, hk, hv,
      h₁, h₂, h₃, h₄]
    exact whole_result q k v _ _ _ _ l hl

end Cert.Attn

end
-- ==== Proof.Proj.Heads.lean ====
/- What the projection kernel's body stores, in stages: the modulated rows times the weight's columns, and one head block
   after another normalized and rotated. The body spells the same block eight times for the queries and eight times for the
   keys. -/
module

public import proofs.«01_k».proof.Proof.Gen.Kernel2Ideal.Value
public import Idealize.ShloMosaic.Lib.Pipeline.ValueKit

@[expose] public section

set_option maxRecDepth 16384

noncomputable section

namespace Cert.Proj

open Cert.Kernel2Ideal Cert.Kernel2Ideal.Gen
open Idealize.ShloMosaic Idealize.SL.Sem

variable {F : FTy → Type} [FloatOps F] [Named F]

/-- A head block over the root of its mean square in each half, times the gain. -/
def unitBlk (u : FVec F S512x128 .f32) (g : FVec F S1x128 .f32) (o : FVec F S128x128 .bf16) : FVec F S512x128 .f32 :=
  mulf (mulf u (rsqrt (addf (mulf
      (addf (matmul dot_S512x128_S128x128_S512x128_1_0_0_1_n_n none (truncf .bf16 (mulf u u) bitsLt_bf16_f32) o
          (constant S512x128 .f32 0x00000000#32))
        (matmul dot_S512x128_S128x128_S512x128_1_0_0_1_n_n none
          (truncf .bf16 (subf (mulf u u) (extf .f32 (truncf .bf16 (mulf u u) bitsLt_bf16_f32) bitsLt_bf16_f32)) bitsLt_bf16_f32) o
          (constant S512x128 .f32 0x00000000#32)))
      (broadcast S512x128 (Scalar.ofBits .f32 0x3C800000#32))) (broadcast S512x128 (Scalar.ofBits .f32 0x358637BD#32)))))
    (broadcastTo S512x128 g broadcasts_S1x128_S512x128)

/-- A block turned by the angles of its rows: each half's two quarters mixed. -/
def turnBlk (k : IVec S512x128 1) (y c s : FVec F S512x128 .f32) : FVec F S512x128 .f32 :=
  addf (mulf y c) (mulf (select k (dynamicRotate 1 96#32 none y rotates_S512x128_d1)
    (dynamicRotate 1 32#32 none y rotates_S512x128_d1)) s)

/-- One head of an array of eight. -/
def headOut (k : IVec S512x128 1) (u : FVec F S512x128 .f32) (g : FVec F S1x128 .f32) (o : FVec F S128x128 .bf16)
    (c s : FVec F S512x128 .f32) : FVec F S512x128 .f32 := turnBlk k (unitBlk u g o) c s

/-- All eight heads, side by side. -/
def headsOut (k : IVec S512x128 1) (z : FVec F S512x1024 .f32) (g : FVec F S1x128 .f32) (o : FVec F S128x128 .bf16)
    (c s : FVec F S512x128 .f32) : FVec F S512x1024 .f32 :=
  concatenate S512x1024 1
    [⟨S512x128, headOut k (extractStridedSlice S512x128 ![0, 0] z slices_S512x1024_o0_0_S512x128) g o c s⟩,
     ⟨S512x128, headOut k (extractStridedSlice S512x128 ![0, 128] z slices_S512x1024_o0_128_S512x128) g o c s⟩,
     ⟨S512x128, headOut k (extractStridedSlice S512x128 ![0, 256] z slices_S512x1024_o0_256_S512x128) g o c s⟩,
     ⟨S512x128, headOut k (extractStridedSlice S512x128 ![0, 384] z slices_S512x1024_o0_384_S512x128) g o c s⟩,
     ⟨S512x128, headOut k (extractStridedSlice S512x128 ![0, 512] z slices_S512x1024_o0_512_S512x128) g o c s⟩,
     ⟨S512x128, headOut k (extractStridedSlice S512x128 ![0, 640] z slices_S512x1024_o0_640_S512x128) g o c s⟩,
     ⟨S512x128, headOut k (extractStridedSlice S512x128 ![0, 768] z slices_S512x1024_o0_768_S512x128) g o c s⟩,
     ⟨S512x128, headOut k (extractStridedSlice S512x128 ![0, 896] z slices_S512x1024_o0_896_S512x128) g o c s⟩]
    concatenates_S512x128_S512x128_S512x128_S512x128_S512x128_S512x128_S512x128_S512x128_S512x1024_d1

variable (x0 : Vec F S512x1024 .f32) (x1 x2 : Vec F S1x1x1024 .f32) (x3 : Vec F S1x1024 .f32) (x4 : Vec F S1024x3072 .bf16)
  (x5 x6 : Vec F S1x128 .f32) (x7 x8 : Vec F S512x128 .f32) (x9 : Vec F S128x128 .bf16) (x10 : Vec F S8x128 .i32)

/-- The keys the body stores. -/
def keysOut : FVec F S512x1024 .f32 :=
  headsOut k0_pay9 (k0_pay34 (k0_pay4 x0 x3 x2 x1 x4)) (shapeCast S1x128 x6 shapeCasts_S1x128_S1x128)
    (shapeCast S128x128 x9 shapeCasts_S128x128_S128x128) (k0_pay5 x7) (k0_pay6 x8)

/-- The queries it stores. -/
def queriesOut : FVec F S512x1024 .bf16 :=
  truncf .bf16 (mulf (headsOut k0_pay9 (k0_pay7 x0 x3 x2 x1 x4) (shapeCast S1x128 x5 shapeCasts_S1x128_S1x128)
    (shapeCast S128x128 x9 shapeCasts_S128x128_S128x128) (k0_pay5 x7) (k0_pay6 x8))
    (broadcast S512x1024 (Named.named κ "q_scale" 0x3E38AA3B#32))) bitsLt_bf16_f32

theorem ld0 (x : Vec F S512x1024 .f32) : View.ld x r0_0 = x := View.ld_unit_lit _ _ (by decide)
theorem ld1 (x : Vec F S1x1024 .f32) : View.ld x r0_1 = x := View.ld_unit_lit _ _ (by decide)
theorem ld2 (x : Vec F S1x1x1024 .f32) : View.ld x r0_2 = x := View.ld_unit_lit _ _ (by decide)
theorem ld3 (x : Vec F S1024x3072 .bf16) : View.ld x r0_3 = x := View.ld_unit_lit _ _ (by decide)
theorem ld4 (x : Vec F S512x128 .f32) : View.ld x r0_4 = x := View.ld_unit_lit _ _ (by decide)
theorem ld5 (x : Vec F S1x128 .f32) : View.ld x r0_5 = x := View.ld_unit_lit _ _ (by decide)
theorem ld6 (x : Vec F S128x128 .bf16) : View.ld x r0_6 = x := View.ld_unit_lit _ _ (by decide)

set_option maxHeartbeats 4000000 in
theorem pay67_eq : k0_pay67 x0 x1 x2 x3 x4 x5 x6 x7 x8 x9 x10 = keysOut x0 x1 x2 x3 x4 x6 x7 x8 x9 := by
  unfold k0_pay67 k0_pay66 k0_pay65 k0_pay64 k0_pay63 k0_pay59 k0_pay58 k0_pay57
  simp only [ld0, ld1, ld2, ld3, ld4, ld5, ld6]
  unfold keysOut headsOut headOut turnBlk unitBlk
  rfl

theorem out12_eq : out0_12 x0 x1 x2 x3 x4 x5 x6 x7 x8 x9 x10 = keysOut x0 x1 x2 x3 x4 x6 x7 x8 x9 := by
  unfold out0_12
  rw [View.canon_cons_unit_lit _ _ _ (by decide), pay67_eq]

theorem out13_eq :
    out0_13 x0 x1 x2 x3 x4 x5 x6 x7 x8 x9 x10 = truncf .bf16 (keysOut x0 x1 x2 x3 x4 x6 x7 x8 x9) bitsLt_bf16_f32 := by
  unfold out0_13
  rw [View.canon_cons_unit_lit _ _ _ (by decide), pay67_eq]
  rfl

theorem out14_eq : out0_14 x0 x1 x2 x3 x4 x5 x6 x7 x8 x9 x10 = k0_pay2 (k0_pay4 x0 x3 x2 x1 x4) := by
  unfold out0_14 k0_pay57
  rw [View.canon_cons_unit_lit _ _ _ (by decide)]
  simp only [ld0, ld1, ld2, ld3, ld4, ld5, ld6]

theorem out15_eq : out0_15 x0 x1 x2 x3 x4 x5 x6 x7 x8 x9 x10 = k0_pay3 (k0_pay4 x0 x3 x2 x1 x4) := by
  unfold out0_15 k0_pay57
  rw [View.canon_cons_unit_lit _ _ _ (by decide)]
  simp only [ld0, ld1, ld2, ld3, ld4, ld5, ld6]

set_option maxHeartbeats 4000000 in
theorem out11_eq : out0_11 x0 x1 x2 x3 x4 x5 x6 x7 x8 x9 x10 = queriesOut x0 x1 x2 x3 x4 x5 x7 x8 x9 := by
  unfold out0_11
  rw [View.canon_cons_unit_lit _ _ _ (by decide)]
  unfold k0_pay62 k0_pay61 k0_pay60 k0_pay59 k0_pay58
  simp only [ld0, ld1, ld2, ld3, ld4, ld5, ld6]
  unfold queriesOut headsOut headOut turnBlk unitBlk
  rfl

end Cert.Proj

end
-- ==== Proof.Proj.KernelAt.lean ====
/- The kernel's expressions of the projection read at one index, over the extended reals. -/
module

public import proofs.«01_k».proof.Proof.Proj.Heads
public import Idealize.ShloMosaic.Lib.Pointwise

@[expose] public section

set_option maxRecDepth 16384

noncomputable section

namespace Cert.Proj

open Cert.Kernel2Ideal Cert.Kernel2Ideal.Gen
open Idealize.ShloMosaic

/-- A lane's place in its half, as the kernel spells the remainder by 64, compared with 32. -/
def quarterWord (w : BitVec 32) : BitVec 1 :=
  let k : BitVec 32 := Scalar.select (Scalar.cmpi .eq 64#32 0#32) 1#32 64#32
  IntOp.cmpi .slt
    (Scalar.select
      (IntOp.andi (IntOp.xori (IntOp.cmpi .slt (IntOp.remsi .vector w k) 0#32) (Scalar.cmpi .slt k 0#32))
        (IntOp.cmpi .ne (IntOp.remsi .vector w k) 0#32))
      (IntOp.addi (IntOp.remsi .vector w k) k) (IntOp.remsi .vector w k)) 32#32

theorem quarter_word : ∀ c : Fin 128, quarterWord (BitVec.ofNat 32 c.val) = if c.val % 64 < 32 then 1#1 else 0#1 := by
  decide +kernel

theorem mask_at (p : Fin 512) (c : Fin 128) : k0_pay9 (ix2 p c) = if c.val % 64 < 32 then 1#1 else 0#1 := by
  rw [← quarter_word]
  pointwise [k0_pay9]
  rfl

/-- Head `h`'s block of an array of eight heads. -/
def blk (z : FVec Ideal S512x1024 .f32) (h : Fin 8) : FVec Ideal S512x128 .f32 := fun y =>
  have hy : (y 1).val < 128 := (y 1).isLt
  z (ix2 (y 0) (⟨128 * h.val + (y 1).val, by omega⟩ : Fin 1024))

theorem concat8 (f : Fin 8 → FVec Ideal S512x128 .f32) (p : Fin 512) (h : Fin 8) (c : Fin 128) :
    concatenate S512x1024 1 [⟨S512x128, f 0⟩, ⟨S512x128, f 1⟩, ⟨S512x128, f 2⟩, ⟨S512x128, f 3⟩, ⟨S512x128, f 4⟩, ⟨S512x128, f 5⟩,
      ⟨S512x128, f 6⟩, ⟨S512x128, f 7⟩]
      concatenates_S512x128_S512x128_S512x128_S512x128_S512x128_S512x128_S512x128_S512x128_S512x1024_d1
      (ix2 p (⟨128 * h.val + c.val, by omega⟩ : Fin 1024)) = f h (ix2 p c) := by
  have key : ∀ (h' : Fin 8) (n : ℕ) (hn : n < 128), h'.val = h.val → n = c.val → f h' (ix2 p (⟨n, hn⟩ : Fin 128)) = f h (ix2 p c) := by
    rintro h' n hn e rfl
    rw [Fin.ext e]
  have hc := c.isLt
  have hh := h.isLt
  pointwise []
  repeat' split
  all_goals exact key _ _ _ (by first | omega | (simp; omega)) (by omega)

theorem unit_at (u : FVec Ideal S512x128 .f32) (g : FVec Ideal S1x128 .f32) (o : FVec Ideal S128x128 .bf16) (p : Fin 512)
    (c : Fin 128) :
    unitBlk u g o (ix2 p c) = u (ix2 p c) * Ideal.rsqrt ((∑ l : Fin 128, u (ix2 p l) * u (ix2 p l) * o (ix2 l c)
      + ∑ l : Fin 128, (u (ix2 p l) * u (ix2 p l) - u (ix2 p l) * u (ix2 p l)) * o (ix2 l c)) * Ideal.ofBits .f32 0x3C800000#32
      + Ideal.ofBits .f32 0x358637BD#32) * g (ix2 0 c) := by
  pointwise [unitBlk]

theorem turn_at (y c s : FVec Ideal S512x128 .f32) (p : Fin 512) (e : Fin 128) :
    turnBlk k0_pay9 y c s (ix2 p e) = y (ix2 p e) * c (ix2 p e)
      + Scalar.select (k0_pay9 (ix2 p e)) (y (ix2 p (⟨(e.val + 32) % 128, by omega⟩ : Fin 128)))
        (y (ix2 p (⟨(e.val + 96) % 128, by omega⟩ : Fin 128))) * s (ix2 p e) := by
  have e1 : (e.val + 128 - 96) % 128 = (e.val + 32) % 128 := by omega
  have e2 : (e.val + 128 - 32) % 128 = (e.val + 96) % 128 := by omega
  pointwise [turnBlk]
  simp only [e1, e2]

theorem rows_at (x : FVec Ideal S512x1024 .f32) (sh sc : FVec Ideal S1x1x1024 .f32) (g : FVec Ideal S1x1024 .f32)
    (w : FVec Ideal S1024x3072 .bf16) (p : Fin 512) (n : Fin 3072) :
    k0_pay4 (F := Ideal) x g sc sh w (ix2 p n) = ∑ k : Fin 1024,
      (x (ix2 p k) * Ideal.rsqrt (Ideal.div (∑ j : Fin 1024, x (ix2 p j) * x (ix2 p j)) (Ideal.ofBits .f32 0x44800000#32)
          + Ideal.ofBits .f32 0x358637BD#32) * g (ix2 0 k) * (Ideal.ofBits .f32 0x3F800000#32 + sc (ix3 0 0 k)) + sh (ix3 0 0 k))
        * w (ix2 k n) := by
  pointwise [k0_pay4]

theorem partQ_at (x : FVec Ideal S512x1024 .f32) (sh sc : FVec Ideal S1x1x1024 .f32) (g : FVec Ideal S1x1024 .f32)
    (w : FVec Ideal S1024x3072 .bf16) (p : Fin 512) (n : Fin 1024) :
    k0_pay7 (F := Ideal) x g sc sh w (ix2 p n) = k0_pay4 (F := Ideal) x g sc sh w (ix2 p (⟨n.val, by omega⟩ : Fin 3072)) := by
  pointwise [k0_pay7]

theorem partK_at (z : FVec Ideal S512x3072 .f32) (p : Fin 512) (n : Fin 1024) :
    k0_pay34 (F := Ideal) z (ix2 p n) = z (ix2 p (⟨1024 + n.val, by omega⟩ : Fin 3072)) := by
  pointwise [k0_pay34]

theorem partV_at (z : FVec Ideal S512x3072 .f32) (p : Fin 512) (n : Fin 1024) :
    k0_pay2 (F := Ideal) z (ix2 p n) = z (ix2 p (⟨2048 + n.val, by omega⟩ : Fin 3072)) := by
  pointwise [k0_pay2]

theorem slice_blk (z : FVec Ideal S512x1024 .f32) :
    extractStridedSlice S512x128 ![0, 0] z slices_S512x1024_o0_0_S512x128 = blk z 0
    ∧ extractStridedSlice S512x128 ![0, 128] z slices_S512x1024_o0_128_S512x128 = blk z 1
    ∧ extractStridedSlice S512x128 ![0, 256] z slices_S512x1024_o0_256_S512x128 = blk z 2
    ∧ extractStridedSlice S512x128 ![0, 384] z slices_S512x1024_o0_384_S512x128 = blk z 3
    ∧ extractStridedSlice S512x128 ![0, 512] z slices_S512x1024_o0_512_S512x128 = blk z 4
    ∧ extractStridedSlice S512x128 ![0, 640] z slices_S512x1024_o0_640_S512x128 = blk z 5
    ∧ extractStridedSlice S512x128 ![0, 768] z slices_S512x1024_o0_768_S512x128 = blk z 6
    ∧ extractStridedSlice S512x128 ![0, 896] z slices_S512x1024_o0_896_S512x128 = blk z 7 := by
  refine ⟨?_, ?_, ?_, ?_, ?_, ?_, ?_, ?_⟩ <;> funext y <;>
    obtain ⟨p, c, rfl⟩ : ∃ (p : Fin 512) (c : Fin 128), y = ix2 p c := ⟨y 0, y 1, eq_ix2 y⟩ <;>
    pointwise [blk]

/-- Every head of the stored array is its block's head. -/
theorem heads_at (k : IVec S512x128 1) (z : FVec Ideal S512x1024 .f32) (g : FVec Ideal S1x128 .f32)
    (o : FVec Ideal S128x128 .bf16) (c s : FVec Ideal S512x128 .f32) (p : Fin 512) (h : Fin 8) (e : Fin 128) :
    headsOut k z g o c s (ix2 p (⟨128 * h.val + e.val, by omega⟩ : Fin 1024)) = headOut k (blk z h) g o c s (ix2 p e) := by
  obtain ⟨h0, h1, h2, h3, h4, h5, h6, h7⟩ := slice_blk z
  unfold headsOut
  rw [h0, h1, h2, h3, h4, h5, h6, h7]
  exact concat8 (fun i => headOut k (blk z i) g o c s) p h e

end Cert.Proj

end
-- ==== Proof.Proj.Host.lean ====
/- The host code before the projection kernel, as functions of the arguments: the rows, the modulation, the weight's
   columns, the gains, the tables of cosines and signed sines, and the matrix that sums each half of a head. -/
module

public import proofs.«01_k».proof.Proof.Gen.Kernel2Ideal.Value
public import Idealize.ShloMosaic.Lib.Claim

@[expose] public section

set_option maxRecDepth 16384

noncomputable section

namespace Cert.Proj

open Cert.Kernel2Ideal Cert.Kernel2Ideal.Gen
open Idealize.ShloMosaic Idealize.ShloMosaic.TcCoe
open Idealize.SL.Sem

variable {F : FTy → Type} [FloatOps F] [Named F]

/-- The angle of each position and frequency. -/
def angles : FVec F S8192x32 .f32 :=
  mulf (broadcastInDim S8192x32 ![0, 1] bcast_S8192x1_S8192x32_0_1
      (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The cosines, four times side by side. -/
def cosTab (a : FVec F S8192x32 .f32) : FVec F S8192x128 .f32 :=
  shapeCast S8192x128 (broadcastInDim S1x8192x4x32 ![0, 1, 2, 3] bcast_S1x8192x1x32_S1x8192x4x32_0_1_2_3
    (shapeCast S1x8192x1x32 (Host.cos a) shapeCasts_S8192x32_S1x8192x1x32)) shapeCasts_S1x8192x4x32_S8192x128

/-- The sines, negated and not, twice side by side. -/
def sinTab (a : FVec F S8192x32 .f32) : FVec F S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, Host.negf (Host.sin a)⟩, ⟨S8192x32, Host.sin a⟩]
      concatenates_S8192x32_S8192x32_S8192x64_d1) shapeCasts_S8192x64_S1x8192x1x64)) shapeCasts_S1x8192x2x64_S8192x128

/-- A lane's half, as the host spells the floor of its division by 64, down the rows, -/
def halfRow : IVec S128x1 32 :=
  select
    (andi
      (cmpi .ne (signi (broadcastInDim S128x1 ![0] bcast_S128_S128x1_0 (iotaInDim S128 32 0)))
        (broadcastInDim S128x1 ![] bcast_S_S128x1 (signi (id (constantI S_ 32 64#32)))))
      (cmpi .ne (Host.remsi (broadcastInDim S128x1 ![0] bcast_S128_S128x1_0 (iotaInDim S128 32 0))
          (broadcastInDim S128x1 ![] bcast_S_S128x1 (id (constantI S_ 32 64#32))))
        (broadcastInDim S128x1 ![] bcast_S_S128x1 (constantI S_ 32 0#32))))
    (subi (Host.divsi (broadcastInDim S128x1 ![0] bcast_S128_S128x1_0 (iotaInDim S128 32 0))
        (broadcastInDim S128x1 ![] bcast_S_S128x1 (id (constantI S_ 32 64#32))))
      (broadcastInDim S128x1 ![] bcast_S_S128x1 (constantI S_ 32 1#32)))
    (Host.divsi (broadcastInDim S128x1 ![0] bcast_S128_S128x1_0 (iotaInDim S128 32 0))
      (broadcastInDim S128x1 ![] bcast_S_S128x1 (id (constantI S_ 32 64#32))))

/-- and along the columns. -/
def halfCol : IVec S1x128 32 :=
  select
    (andi
      (cmpi .ne (signi (broadcastInDim S1x128 ![1] bcast_S128_S1x128_1 (iotaInDim S128 32 0)))
        (broadcastInDim S1x128 ![] bcast_S_S1x128 (signi (id (constantI S_ 32 64#32)))))
      (cmpi .ne (Host.remsi (broadcastInDim S1x128 ![1] bcast_S128_S1x128_1 (iotaInDim S128 32 0))
          (broadcastInDim S1x128 ![] bcast_S_S1x128 (id (constantI S_ 32 64#32))))
        (broadcastInDim S1x128 ![] bcast_S_S1x128 (constantI S_ 32 0#32))))
    (subi (Host.divsi (broadcastInDim S1x128 ![1] bcast_S128_S1x128_1 (iotaInDim S128 32 0))
        (broadcastInDim S1x128 ![] bcast_S_S1x128 (id (constantI S_ 32 64#32))))
      (broadcastInDim S1x128 ![] bcast_S_S1x128 (constantI S_ 32 1#32)))
    (Host.divsi (broadcastInDim S1x128 ![1] bcast_S128_S1x128_1 (iotaInDim S128 32 0))
      (broadcastInDim S1x128 ![] bcast_S_S1x128 (id (constantI S_ 32 64#32))))

/-- Ones where row and column lie in the same half. -/
def onesTab : FVec F S128x128 .bf16 :=
  uitofp .bf16 (cmpi .eq (broadcastInDim S128x128 ![0, 1] bcast_S128x1_S128x128_0_1 halfRow)
    (broadcastInDim S128x128 ![0, 1] bcast_S1x128_S128x128_0_1 halfCol))

variable (m : (ℓ : Loc nD τ sig) → Buf (Elt F) ℓ) (c : Dev nD)

theorem entry_rows : V m c main_v32
    = shapeCast S16384x1024 (m ((c.tc : Thread nD τ).loc main_arg0)) shapeCasts_S2x8192x1024_S16384x1024 := by
  entry_read; rfl
theorem entry_shift : V m c main_v33
    = broadcastInDim S2x1x1024 ![0, 2] bcast_S2x1024_S2x1x1024_0_2 (m ((c.tc : Thread nD τ).loc main_arg1)) := by
  entry_read; rfl
theorem entry_scale : V m c main_v34
    = broadcastInDim S2x1x1024 ![0, 2] bcast_S2x1024_S2x1x1024_0_2 (m ((c.tc : Thread nD τ).loc main_arg2)) := by
  entry_read; rfl
theorem entry_gain : V m c main_v35
    = broadcastInDim S1x1024 ![1] bcast_S1024_S1x1024_1 (m ((c.tc : Thread nD τ).loc main_arg3)) := by
  entry_read; rfl
theorem entry_w : V m c main_v37
    = truncf .bf16 (extractStridedSlice S1024x3072 ![0, 3088] (m ((c.tc : Thread nD τ).loc main_arg4))
      slices_S1024x8208_S1024x3072_0_3088) bitsLt_bf16_f32 := by
  entry_read; rfl
theorem entry_qg : V m c main_v38 = shapeCast S1x128 (m ((c.tc : Thread nD τ).loc main_arg5)) shapeCasts_S2x64_S1x128 := by
  entry_read; rfl
theorem entry_kg : V m c main_v39 = shapeCast S1x128 (m ((c.tc : Thread nD τ).loc main_arg6)) shapeCasts_S2x64_S1x128 := by
  entry_read; rfl
theorem entry_cos : V m c main_v26 = cosTab (F := F) angles := by
  entry_read; rfl
set_option maxHeartbeats 2000000 in
theorem entry_sin : V m c main_v31 = sinTab (F := F) angles := by
  unfold sinTab angles
  entry_read; rfl
set_option maxHeartbeats 2000000 in
theorem entry_ones : V m c main_v8 = onesTab (F := F) := by
  unfold onesTab halfRow halfCol
  entry_read; rfl

end Cert.Proj

end
-- ==== Proof.Proj.Spec.lean ====
/- One half of a head as the projection is to leave it: its 64 numbers over the root of their mean square, times the gain,
   the two quarters mixed by the angles. -/
module

public import Idealize.ShloMosaic.Lib.Pointwise

@[expose] public section

set_option maxRecDepth 16384

noncomputable section

namespace Cert.Proj

open Idealize.ShloMosaic

/-- The numbers over the root of their mean square, times the gain. -/
def nrm (z g : Fin 64 → EReal) (e : Fin 64) : EReal :=
  z e * Ideal.rsqrt (Ideal.div (∑ j : Fin 64, z j * z j) (Ideal.ofBits .f32 0x42800000#32) + Ideal.ofBits .f32 0x358637BD#32) * g e

/-- The rotation. -/
def rot (u : Fin 64 → EReal) (a : Fin 32 → EReal) (d : Fin 64) : EReal :=
  if h : d.val < 32 then
    u d * Ideal.cos (a ⟨d.val, h⟩) - u (⟨32 + d.val, by omega⟩ : Fin 64) * Ideal.sin (a ⟨d.val, h⟩)
  else
    u d * Ideal.cos (a (⟨d.val - 32, by omega⟩ : Fin 32))
      + u (⟨d.val - 32, by omega⟩ : Fin 64) * Ideal.sin (a (⟨d.val - 32, by omega⟩ : Fin 32))

/-- A column of a head: half `μ`, place `d`. -/
def lane (μ : Fin 2) (d : Fin 64) : Fin 128 := ⟨64 * μ.val + d.val, by omega⟩

/-- A column of an array of eight heads. -/
def colOf (h : Fin 8) (e : Fin 128) : Fin 1024 := ⟨128 * h.val + e.val, by omega⟩

/-- A row of the flattened batches. -/
def rowOf (b : Fin 2) (i : Fin 8192) : Fin 16384 := ⟨8192 * b.val + i.val, by omega⟩

theorem col_cases (n : Fin 1024) : ∃ (h : Fin 8) (μ : Fin 2) (d : Fin 64), n = colOf h (lane μ d) :=
  ⟨⟨n.val / 128, by omega⟩, ⟨n.val / 64 % 2, by omega⟩, ⟨n.val % 64, by omega⟩, Fin.ext (by simp only [colOf, lane]; omega)⟩

theorem row_cases (r : Fin 16384) : ∃ (b : Fin 2) (i : Fin 8192), r = rowOf b i :=
  ⟨⟨r.val / 8192, by omega⟩, ⟨r.val % 8192, by omega⟩, Fin.ext (by simp only [rowOf]; omega)⟩

theorem w64 : Ideal.ofBits .f32 0x42800000#32 = ((64 : ℝ) : EReal) := by
  simp [Ideal.ofBits, Ideal.ieee]
  rw [← EReal.coe_mul]
  norm_num

theorem w1_64 : Ideal.ofBits .f32 0x3C800000#32 = ((1 / 64 : ℝ) : EReal) := by
  simp [Ideal.ofBits, Ideal.ieee]
  rw [← EReal.coe_mul]
  norm_num

theorem w1024 : Ideal.ofBits .f32 0x44800000#32 = ((1024 : ℝ) : EReal) := by
  simp [Ideal.ofBits, Ideal.ieee]
  rw [← EReal.coe_mul]
  norm_num

theorem w1 : Ideal.ofBits .f32 0x3F800000#32 = ((1 : ℝ) : EReal) := by
  simp [Ideal.ofBits, Ideal.ieee]
  rw [← EReal.coe_mul]
  norm_num

/-- The number added under the roots is a positive real. -/
theorem weps : ∃ e : ℝ, 0 < e ∧ Ideal.ofBits .f32 0x358637BD#32 = ((e : ℝ) : EReal) := by
  simp [Ideal.ofBits, Ideal.ieee]
  refine ⟨_, ?_, (EReal.coe_mul _ _).symm⟩
  positivity

/-- Division by 64 is multiplication by its inverse. -/
theorem div64 (x : EReal) : Ideal.div x (Ideal.ofBits .f32 0x42800000#32) = x * Ideal.ofBits .f32 0x3C800000#32 := by
  rw [w64, w1_64, Ideal.div_coe (by norm_num)]

end Cert.Proj

end
-- ==== Proof.Proj.HostAt.lean ====
/- The tables and arguments that the host code hands to the projection kernel, read at one index over the extended reals. -/
module

public import proofs.«01_k».proof.Proof.Proj.Host
public import proofs.«01_k».proof.Proof.Proj.Spec

@[expose] public section

set_option maxRecDepth 16384

noncomputable section

namespace Cert.Proj

open Cert.Kernel2Ideal Cert.Kernel2Ideal.Gen
open Idealize.ShloMosaic

theorem cosTab_at (a : FVec Ideal S8192x32 .f32) (i : Fin 8192) (c : Fin 128) :
    cosTab a (ix2 i c) = Ideal.cos (a (ix2 i (⟨c.val % 32, by omega⟩ : Fin 32))) := by
  pointwise [cosTab]

theorem sinTab_at (a : FVec Ideal S8192x32 .f32) (i : Fin 8192) (c : Fin 128) :
    sinTab a (ix2 i c) = if c.val % 64 < 32 then -Ideal.sin (a (ix2 i (⟨c.val % 32, by omega⟩ : Fin 32)))
      else Ideal.sin (a (ix2 i (⟨c.val % 32, by omega⟩ : Fin 32))) := by
  pointwise [sinTab]
  split
  · next h => simp only [show c.val % 64 = c.val % 32 by omega]
  · next h => simp only [show c.val % 64 - 32 = c.val % 32 by omega]

/-- The sign of a word. -/
def signWord (w : BitVec 32) : BitVec 32 := if w = 0 then 0 else if w.msb = true then -1 else 1

/-- The half of a lane as a word, as the host computes it. -/
def halfWord (w : BitVec 32) : BitVec 32 :=
  Scalar.select (IntOp.andi (IntOp.cmpi .ne (signWord w) (signWord 64#32)) (IntOp.cmpi .ne (IntOp.remsi .host w 64#32) 0#32))
    (IntOp.subi (IntOp.divsi .host w 64#32) 1#32) (IntOp.divsi .host w 64#32)

theorem half_word : ∀ l : Fin 128, halfWord (BitVec.ofNat 32 l.val) = BitVec.ofNat 32 (l.val / 64) := by
  decide +kernel

theorem halfRow_at (l : Fin 128) : halfRow (ix2 l 0) = BitVec.ofNat 32 (l.val / 64) := by
  rw [← half_word]
  pointwise [halfRow]
  rfl

theorem halfCol_at (c : Fin 128) : halfCol (ix2 0 c) = BitVec.ofNat 32 (c.val / 64) := by
  rw [← half_word]
  pointwise [halfCol]
  rfl

theorem same_word : ∀ a b : Fin 2,
    IntOp.cmpi .eq (BitVec.ofNat 32 a.val) (BitVec.ofNat 32 b.val) = if a.val = b.val then 1#1 else 0#1 := by
  decide +kernel

theorem ones_at (l c : Fin 128) :
    onesTab (F := Ideal) (ix2 l c) = if l.val / 64 = c.val / 64 then 1 else 0 := by
  pointwise [onesTab]
  rw [halfRow_at, halfCol_at]
  have e := same_word (⟨l.val / 64, by omega⟩ : Fin 2) (⟨c.val / 64, by omega⟩ : Fin 2)
  simp only [] at e
  rw [e]
  split <;> simp [FloatOps.uitofp]

theorem rows_arg (x : FVec Ideal S2x8192x1024 .f32) (b : Fin 2) (i : Fin 8192) (k : Fin 1024) :
    shapeCast S16384x1024 x shapeCasts_S2x8192x1024_S16384x1024 (ix2 (rowOf b i) k) = x (ix3 b i k) := by
  pointwise [rowOf]

theorem batch_arg (s : FVec Ideal S2x1024 .f32) (b : Fin 2) (k : Fin 1024) :
    broadcastInDim S2x1x1024 ![0, 2] bcast_S2x1024_S2x1x1024_0_2 s (ix3 b 0 k) = s (ix2 b k) := by
  pointwise []

theorem gain_arg (g : FVec Ideal S1024 .f32) (k : Fin 1024) :
    broadcastInDim S1x1024 ![1] bcast_S1024_S1x1024_1 g (ix2 0 k) = g (ix1 k) := by
  pointwise []

theorem w_arg (w : FVec Ideal S1024x8208 .f32) (k : Fin 1024) (n : Fin 3072) :
    truncf (F := Ideal) .bf16 (extractStridedSlice S1024x3072 ![0, 3088] w slices_S1024x8208_S1024x3072_0_3088) bitsLt_bf16_f32 (ix2 k n)
      = w (ix2 k (⟨3088 + n.val, by omega⟩ : Fin 8208)) := by
  pointwise []

theorem head_gain_arg (g : FVec Ideal S2x64 .f32) (μ : Fin 2) (d : Fin 64) :
    shapeCast S1x128 g shapeCasts_S2x64_S1x128 (ix2 0 (lane μ d)) = g (ix2 μ d) := by
  pointwise [lane]

end Cert.Proj

end
-- ==== Proof.Proj.Core.lean ====
/- The kernel's head against the specified one: where the projected numbers are real, the remainder of rounding is zero, the
   matrix of ones sums each half, and the signed sines give the rotation. -/
module

public import proofs.«01_k».proof.Proof.Proj.KernelAt
public import proofs.«01_k».proof.Proof.Proj.HostAt

@[expose] public section

set_option maxRecDepth 16384

noncomputable section

namespace Cert.Proj

open Cert.Kernel2Ideal Cert.Kernel2Ideal.Gen
open Idealize.ShloMosaic

/-- A sum over the lanes of a head weighted by the ones of half `μ` is the sum over the half. -/
theorem sum_half (f : Fin 128 → EReal) (μ : Fin 2) :
    ∑ l : Fin 128, f l * (if l.val / 64 = μ.val then 1 else 0) = ∑ j : Fin 64, f (lane μ j) := by
  simp only [mul_ite, mul_one, mul_zero]
  rw [← Finset.sum_filter]
  refine (Finset.sum_bij (fun j _ => lane μ j) ?_ ?_ ?_ ?_).symm
  · intro j _
    simp only [Finset.mem_filter, Finset.mem_univ, true_and, lane]
    omega
  · intro a _ b _ e
    have := congrArg Fin.val e
    simp only [lane] at this
    exact Fin.ext (by omega)
  · intro l hl
    simp only [Finset.mem_filter, Finset.mem_univ, true_and] at hl
    exact ⟨⟨l.val % 64, by omega⟩, Finset.mem_univ _, Fin.ext (by simp only [lane]; omega)⟩
  · intro _ _
    rfl

/-- The normalized block is the specified one. -/
theorem unit_half (u : FVec Ideal S512x128 .f32) (g : FVec Ideal S1x128 .f32) (p : Fin 512) (μ : Fin 2) (d : Fin 64)
    (hu : ∀ l : Fin 128, ∃ r : ℝ, u (ix2 p l) = (r : EReal)) :
    unitBlk u g onesTab (ix2 p (lane μ d))
      = nrm (fun e => u (ix2 p (lane μ e))) (fun e => g (ix2 0 (lane μ e))) d := by
  have hz : ∀ l : Fin 128, u (ix2 p l) * u (ix2 p l) - u (ix2 p l) * u (ix2 p l) = 0 := fun l => by
    obtain ⟨r, hr⟩ := hu l
    rw [hr, ← EReal.coe_mul, ← EReal.coe_sub, sub_self, EReal.coe_zero]
  have hl : (lane μ d).val / 64 = μ.val := by simp only [lane]; omega
  rw [unit_at]
  simp only [hz, zero_mul, Finset.sum_const_zero, add_zero, ones_at, hl]
  rw [sum_half (fun l => u (ix2 p l) * u (ix2 p l)) μ]
  unfold nrm
  rw [div64]

/-- The turned block is the specified one. -/
theorem turn_half (y c s : FVec Ideal S512x128 .f32) (a : Fin 32 → EReal) (p : Fin 512) (μ : Fin 2) (d : Fin 64)
    (hc : ∀ e : Fin 128, c (ix2 p e) = Ideal.cos (a (⟨e.val % 32, by omega⟩ : Fin 32)))
    (hs : ∀ e : Fin 128, s (ix2 p e) = if e.val % 64 < 32 then -Ideal.sin (a (⟨e.val % 32, by omega⟩ : Fin 32))
      else Ideal.sin (a (⟨e.val % 32, by omega⟩ : Fin 32))) :
    turnBlk k0_pay9 y c s (ix2 p (lane μ d)) = rot (fun e => y (ix2 p (lane μ e))) a d := by
  have hm := μ.isLt
  have hd := d.isLt
  rw [turn_at, mask_at, hc, hs]
  unfold rot
  by_cases h : d.val < 32
  · have h1 : (lane μ d).val % 64 < 32 := by simp only [lane]; omega
    rw [dif_pos h, if_pos h1, if_pos h1]
    have e1 : (⟨((lane μ d).val + 32) % 128, by omega⟩ : Fin 128) = lane μ (⟨32 + d.val, by omega⟩ : Fin 64) :=
      Fin.ext (by simp only [lane]; omega)
    have e2 : (⟨(lane μ d).val % 32, by omega⟩ : Fin 32) = ⟨d.val, h⟩ := Fin.ext (by simp only [lane]; omega)
    rw [e1, e2]
    simp only [Scalar.select, mul_neg, sub_eq_add_neg]
    rfl
  · have h1 : ¬(lane μ d).val % 64 < 32 := by simp only [lane]; omega
    rw [dif_neg h, if_neg h1, if_neg h1]
    have e1 : (⟨((lane μ d).val + 96) % 128, by omega⟩ : Fin 128) = lane μ (⟨d.val - 32, by omega⟩ : Fin 64) :=
      Fin.ext (by simp only [lane]; omega)
    have e2 : (⟨(lane μ d).val % 32, by omega⟩ : Fin 32) = ⟨d.val - 32, by omega⟩ := Fin.ext (by simp only [lane]; omega)
    rw [e1, e2]
    simp only [Scalar.select]
    rfl

/-- Every place of the stored heads. -/
theorem heads_half (z : FVec Ideal S512x1024 .f32) (g : FVec Ideal S1x128 .f32) (c s : FVec Ideal S512x128 .f32)
    (a : Fin 32 → EReal) (p : Fin 512) (h : Fin 8) (μ : Fin 2) (d : Fin 64)
    (hz : ∀ n : Fin 1024, ∃ r : ℝ, z (ix2 p n) = (r : EReal))
    (hc : ∀ e : Fin 128, c (ix2 p e) = Ideal.cos (a (⟨e.val % 32, by omega⟩ : Fin 32)))
    (hs : ∀ e : Fin 128, s (ix2 p e) = if e.val % 64 < 32 then -Ideal.sin (a (⟨e.val % 32, by omega⟩ : Fin 32))
      else Ideal.sin (a (⟨e.val % 32, by omega⟩ : Fin 32))) :
    headsOut k0_pay9 z g onesTab c s (ix2 p (colOf h (lane μ d)))
      = rot (nrm (fun e => z (ix2 p (colOf h (lane μ e)))) (fun e => g (ix2 0 (lane μ e)))) a d := by
  refine (heads_at k0_pay9 z g onesTab c s p h (lane μ d)).trans ?_
  unfold headOut
  rw [turn_half _ c s a p μ d hc hs]
  congr 1
  funext e
  exact unit_half (blk z h) g p μ e fun l => hz _

end Cert.Proj

end
-- ==== Proof.Proj.Stages.lean ====
/- The projection's reference in stages, each a function of arrays: the modulated rows, their product with the weight,
   the normalized heads, the angles and the rotation. -/
module

public import proofs.«01_k».proof.Proof.Gen.Reference2Ideal.Run
public import Idealize.ShloMosaic.Lib.Pointwise

@[expose] public section

set_option maxRecDepth 16384

noncomputable section

namespace Cert.Proj.Ref

open Cert.Reference2Ideal Cert.Reference2Ideal.Gen
open Idealize.ShloMosaic Idealize.ShloMosaic.TcCoe Idealize.SL.Sem Idealize.ShloMosaic.StableHlo

variable {F : FTy → Type} [FloatOps F]

/-- The rows over the roots of their mean squares, times the gain, modulated by scale and shift. -/
def hidden (x : FVec F S2x8192x1024 .f32) (shift scale : FVec F S2x1024 .f32) (g : FVec F S1024 .f32) :
    FVec F S2x8192x1024 .f32 :=
  addf (mulf (mulf (mulf x (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf x x) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
      (broadcastInDim S2x8192x1024 ![0, 1, 2] bcast_S1x1x1024_S2x8192x1024_0_1_2
        (broadcastInDim S1x1x1024 ![2] bcast_S1024_S1x1x1024_2 g)))
      (broadcastInDim S2x8192x1024 ![0, 1, 2] bcast_S2x1x1024_S2x8192x1024_0_1_2
        (addf (broadcastInDim S2x1x1024 ![] bcast_S_S2x1x1024 (constant S_ .f32 0x3F800000#32))
          (broadcastInDim S2x1x1024 ![0, 2] bcast_S2x1024_S2x1x1024_0_2 scale))))
    (broadcastInDim S2x8192x1024 ![0, 1, 2] bcast_S2x1x1024_S2x8192x1024_0_1_2
      (broadcastInDim S2x1x1024 ![0, 2] bcast_S2x1024_S2x1x1024_0_2 shift))

/-- The product with the weight. -/
def proj (h : FVec F S2x8192x1024 .f32) (w : FVec F S1024x8208 .f32) : FVec F S2x8192x8208 .f32 :=
  Host.dotGeneral dot_S2x8192x1024_S1024x8208_S2x8192x8208_2_0_01_1_n_n none h w

/-- The columns of the queries, -/
def partQ (p : FVec F S2x8192x8208 .f32) : FVec F S2x8192x1024 .f32 :=
  extractStridedSlice S2x8192x1024 ![0, 0, 3088] p slices_S2x8192x8208_S2x8192x1024_0_0_3088
/-- of the keys, -/
def partK (p : FVec F S2x8192x8208 .f32) : FVec F S2x8192x1024 .f32 :=
  extractStridedSlice S2x8192x1024 ![0, 0, 4112] p slices_S2x8192x8208_S2x8192x1024_0_0_4112
/-- and of the values. -/
def partV (p : FVec F S2x8192x8208 .f32) : FVec F S2x8192x1024 .f32 :=
  extractStridedSlice S2x8192x1024 ![0, 0, 5136] p slices_S2x8192x8208_S2x8192x1024_0_0_5136

/-- The halves of the heads, -/
def halves (u : FVec F S2x8192x1024 .f32) : FVec F S2x8192x8x2x64 .f32 :=
  shapeCast _ u shapeCasts_S2x8192x1024_S2x8192x8x2x64

/-- each over the root of its mean square, times the gain. -/
def unit (y : FVec F S2x8192x8x2x64 .f32) (g : FVec F S2x64 .f32) : FVec F S2x8192x8x2x64 .f32 :=
  mulf (mulf y (broadcastInDim S2x8192x8x2x64 ![0, 1, 2, 3, 4] bcast_S2x8192x8x2x1_S2x8192x8x2x64_0_1_2_3_4
      (Host.rsqrt (addf (Host.divf (broadcastInDim S2x8192x8x2x1 ![0, 1, 2, 3] bcast_S2x8192x8x2_S2x8192x8x2x1_0_1_2_3
          (Host.reduceAdd (mulf y y) (constant S_ .f32 0x00000000#32) reducesTo_S2x8192x8x2x64_S2x8192x8x2_d4 h_S_))
        (broadcastInDim S2x8192x8x2x1 ![] bcast_S_S2x8192x8x2x1 (constant S_ .f32 0x42800000#32)))
        (broadcastInDim S2x8192x8x2x1 ![] bcast_S_S2x8192x8x2x1 (constant S_ .f32 0x358637BD#32))))))
    (broadcastInDim S2x8192x8x2x64 ![0, 1, 2, 3, 4] bcast_S1x1x1x2x64_S2x8192x8x2x64_0_1_2_3_4
      (broadcastInDim S1x1x1x2x64 ![3, 4] bcast_S2x64_S1x1x1x2x64_3_4 g))

/-- The angle of each position and frequency. -/
def angles : FVec F S8192x32 .f32 :=
  mulf (broadcastInDim S8192x32 ![0, 1] bcast_S8192x1_S8192x32_0_1
      (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A value of each position and frequency, for every head. -/
def spread (t : FVec F S1x8192x1x1x32 .f32) : FVec F S2x8192x8x2x32 .f32 :=
  broadcastInDim S2x8192x8x2x32 ![0, 1, 2, 3, 4] bcast_S1x8192x1x1x32_S2x8192x8x2x32_0_1_2_3_4 t

/-- The first quarters, -/
def lower (y : FVec F S2x8192x8x2x64 .f32) : FVec F S2x8192x8x2x32 .f32 :=
  extractStridedSlice S2x8192x8x2x32 ![0, 0, 0, 0, 0] y slices_S2x8192x8x2x64_S2x8192x8x2x32_0_0_0_0_0
/-- and the second. -/
def upper (y : FVec F S2x8192x8x2x64 .f32) : FVec F S2x8192x8x2x32 .f32 :=
  extractStridedSlice S2x8192x8x2x32 ![0, 0, 0, 0, 32] y slices_S2x8192x8x2x64_S2x8192x8x2x32_0_0_0_0_32

/-- The rotation. -/
def turn (y : FVec F S2x8192x8x2x64 .f32) (a : FVec F S8192x32 .f32) : FVec F S2x8192x8x2x64 .f32 :=
  concatenate S2x8192x8x2x64 4
    [⟨S2x8192x8x2x32, subf (mulf (lower y) (spread (Host.cos (shapeCast _ a shapeCasts_S8192x32_S1x8192x1x1x32))))
      (mulf (upper y) (spread (Host.sin (shapeCast _ a shapeCasts_S8192x32_S1x8192x1x1x32))))⟩,
     ⟨S2x8192x8x2x32, addf (mulf (upper y) (spread (Host.cos (shapeCast _ a shapeCasts_S8192x32_S1x8192x1x1x32))))
      (mulf (lower y) (spread (Host.sin (shapeCast _ a shapeCasts_S8192x32_S1x8192x1x1x32))))⟩]
    concatenates_S2x8192x8x2x32_S2x8192x8x2x32_S2x8192x8x2x64_d4

/-- Batches and positions as one axis of rows, heads side by side. -/
def flat (y : FVec F S2x8192x8x2x64 .f32) : FVec F S16384x1024 .f32 :=
  shapeCast _ y shapeCasts_S2x8192x8x2x64_S16384x1024

/-- The scaled queries, -/
def resQ (p : FVec F S2x8192x8208 .f32) (g : FVec F S2x64 .f32) : FVec F S16384x1024 .f32 :=
  flat (mulf (turn (unit (halves (partQ p)) g) angles) (broadcastInDim S2x8192x8x2x64 ![] bcast_S_S2x8192x8x2x64
    (Host.divf (constant S_ .f32 0x3E000000#32) (Host.log (constant S_ .f32 0x40000000#32)))))
/-- the keys -/
def resK (p : FVec F S2x8192x8208 .f32) (g : FVec F S2x64 .f32) : FVec F S16384x1024 .f32 :=
  flat (turn (unit (halves (partK p)) g) angles)
/-- and the values. -/
def resV (p : FVec F S2x8192x8208 .f32) : FVec F S16384x1024 .f32 :=
  shapeCast _ (partV p) shapeCasts_S2x8192x1024_S16384x1024

variable (m : (ℓ : Loc nD τ sig) → Buf (Elt F) ℓ) (c : Dev nD)

/-- The product, of the arguments. -/
def projOf : FVec F S2x8192x8208 .f32 :=
  proj (hidden (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg4))

set_option maxHeartbeats 4000000 in
theorem k_eq : Value.res_main_v115 m c = resK (projOf m c) (m ((c.tc : Thread nD τ).loc main_arg6)) := by
  unfold Value.res_main_v115 resK flat turn spread lower upper angles unit halves partK projOf proj hidden
  rfl

set_option maxHeartbeats 4000000 in
theorem kb_eq :
    Value.res_main_v118 m c = truncf .bf16 (resK (projOf m c) (m ((c.tc : Thread nD τ).loc main_arg6))) bitsLt_bf16_f32 := by
  unfold Value.res_main_v118 resK flat turn spread lower upper angles unit halves partK projOf proj hidden
  rfl

set_option maxHeartbeats 4000000 in
theorem q_eq :
    Value.res_main_v117 m c = truncf .bf16 (resQ (projOf m c) (m ((c.tc : Thread nD τ).loc main_arg5))) bitsLt_bf16_f32 := by
  unfold Value.res_main_v117 resQ flat turn spread lower upper angles unit halves partQ projOf proj hidden
  rfl

end Cert.Proj.Ref

end
-- ==== Proof.Proj.RefAt.lean ====
/- The projection's reference read at one index, over the extended reals. -/
module

public import proofs.«01_k».proof.Proof.Proj.Stages
public import proofs.«01_k».proof.Proof.Proj.Spec

@[expose] public section

set_option maxRecDepth 16384

noncomputable section

namespace Cert.Proj.Ref

open Cert.Reference2Ideal Cert.Reference2Ideal.Gen
open Idealize.ShloMosaic

theorem hidden_at (x : FVec Ideal S2x8192x1024 .f32) (sh sc : FVec Ideal S2x1024 .f32) (g : FVec Ideal S1024 .f32)
    (b : Fin 2) (i : Fin 8192) (k : Fin 1024) :
    hidden x sh sc g (ix3 b i k)
      = x (ix3 b i k) * Ideal.rsqrt (Ideal.div (∑ j : Fin 1024, x (ix3 b i j) * x (ix3 b i j)) (Ideal.ofBits .f32 0x44800000#32)
          + Ideal.ofBits .f32 0x358637BD#32) * g (ix1 k) * (Ideal.ofBits .f32 0x3F800000#32 + sc (ix2 b k)) + sh (ix2 b k) := by
  pointwise [hidden]

theorem proj_at (h : FVec Ideal S2x8192x1024 .f32) (w : FVec Ideal S1024x8208 .f32) (b : Fin 2) (i : Fin 8192) (n : Fin 8208) :
    proj h w (ix3 b i n) = ∑ k : Fin 1024, h (ix3 b i k) * w (ix2 k n) := by
  pointwise [proj]

theorem partQ_at (p : FVec Ideal S2x8192x8208 .f32) (b : Fin 2) (i : Fin 8192) (h : Fin 8) (μ : Fin 2) (d : Fin 64) :
    halves (partQ p) (ix5 b i h μ d) = p (ix3 b i (⟨3088 + (colOf h (lane μ d)).val, by omega⟩ : Fin 8208)) := by
  pointwise [halves, partQ, colOf, lane]
  exact congrArg (fun n => p (ix3 b i n)) (Fin.ext (by simp only []; omega))

theorem partK_at (p : FVec Ideal S2x8192x8208 .f32) (b : Fin 2) (i : Fin 8192) (h : Fin 8) (μ : Fin 2) (d : Fin 64) :
    halves (partK p) (ix5 b i h μ d) = p (ix3 b i (⟨4112 + (colOf h (lane μ d)).val, by omega⟩ : Fin 8208)) := by
  pointwise [halves, partK, colOf, lane]
  exact congrArg (fun n => p (ix3 b i n)) (Fin.ext (by simp only []; omega))

theorem partV_at (p : FVec Ideal S2x8192x8208 .f32) (b : Fin 2) (i : Fin 8192) (n : Fin 1024) :
    resV p (ix2 (rowOf b i) n) = p (ix3 b i (⟨5136 + n.val, by omega⟩ : Fin 8208)) := by
  pointwise [resV, partV, rowOf]

theorem unit_at (y : FVec Ideal S2x8192x8x2x64 .f32) (g : FVec Ideal S2x64 .f32) (b : Fin 2) (i : Fin 8192) (h : Fin 8)
    (μ : Fin 2) (d : Fin 64) :
    unit y g (ix5 b i h μ d) = nrm (fun e => y (ix5 b i h μ e)) (fun e => g (ix2 μ e)) d := by
  unfold nrm
  pointwise [unit]

theorem turn_at (y : FVec Ideal S2x8192x8x2x64 .f32) (a : FVec Ideal S8192x32 .f32) (b : Fin 2) (i : Fin 8192) (h : Fin 8)
    (μ : Fin 2) (d : Fin 64) :
    turn y a (ix5 b i h μ d) = rot (fun e => y (ix5 b i h μ e)) (fun j => a (ix2 i j)) d := by
  unfold rot
  pointwise [turn, lower, upper, spread]
  split
  · rfl
  · next h' => simp only [show (⟨32 + (d.val - 32), by omega⟩ : Fin 64) = d from Fin.ext (by simp only []; omega)]

theorem flat_at (y : FVec Ideal S2x8192x8x2x64 .f32) (b : Fin 2) (i : Fin 8192) (h : Fin 8) (μ : Fin 2) (d : Fin 64) :
    flat y (ix2 (rowOf b i) (colOf h (lane μ d))) = y (ix5 b i h μ d) := by
  pointwise [flat, rowOf, colOf, lane]

theorem resK_at (p : FVec Ideal S2x8192x8208 .f32) (g : FVec Ideal S2x64 .f32) (b : Fin 2) (i : Fin 8192) (h : Fin 8)
    (μ : Fin 2) (d : Fin 64) :
    resK p g (ix2 (rowOf b i) (colOf h (lane μ d)))
      = rot (nrm (fun e => p (ix3 b i (⟨4112 + (colOf h (lane μ e)).val, by omega⟩ : Fin 8208))) (fun e => g (ix2 μ e)))
        (fun j => angles (F := Ideal) (ix2 i j)) d := by
  rw [resK, flat_at, turn_at]
  congr 1
  funext e
  rw [unit_at]
  congr 1
  funext e
  exact partK_at p b i h μ e

theorem resQ_at (p : FVec Ideal S2x8192x8208 .f32) (g : FVec Ideal S2x64 .f32) (b : Fin 2) (i : Fin 8192) (h : Fin 8)
    (μ : Fin 2) (d : Fin 64) :
    resQ p g (ix2 (rowOf b i) (colOf h (lane μ d)))
      = rot (nrm (fun e => p (ix3 b i (⟨3088 + (colOf h (lane μ e)).val, by omega⟩ : Fin 8208))) (fun e => g (ix2 μ e)))
        (fun j => angles (F := Ideal) (ix2 i j)) d
        * Ideal.div (Ideal.ofBits .f32 0x3E000000#32) (Ideal.log (Ideal.ofBits .f32 0x40000000#32)) := by
  rw [resQ, flat_at]
  refine Eq.trans (b := turn (unit (halves (partQ p)) g) angles (ix5 b i h μ d)
    * Ideal.div (Ideal.ofBits .f32 0x3E000000#32) (Ideal.log (Ideal.ofBits .f32 0x40000000#32))) rfl ?_
  rw [turn_at]
  congr 2
  funext e
  rw [unit_at]
  congr 1
  funext e
  exact partQ_at p b i h μ e

end Cert.Proj.Ref

end
-- ==== Proof.Proj.Real.lean ====
/- The product of the modulated rows and the weight is real where the modulation, the gain and the weight are. -/
module

public import proofs.«01_k».proof.Proof.Proj.RefAt

@[expose] public section

set_option maxRecDepth 16384

noncomputable section

namespace Cert.Proj

open Cert.Reference2Ideal Cert.Reference2Ideal.Gen
open Idealize.ShloMosaic

/-- A real number among the extended reals. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem isReal_sum {n : ℕ} (f : Fin n → EReal) (h : ∀ i, IsReal (f i)) (s : Finset (Fin n)) : IsReal (∑ i ∈ s, f i) := by
  induction s using Finset.induction_on with
  | empty => exact ⟨0, by simp⟩
  | insert a s ha ih => rw [Finset.sum_insert ha]; exact (h a).add ih

/-- A square is not negative. -/
theorem square_nonneg (x : EReal) : 0 ≤ x * x := by
  induction x with
  | bot => simp
  | top => simp
  | coe r => rw [← EReal.coe_mul]; exact_mod_cast mul_self_nonneg r

/-- A sum of squares is a real that is not negative, if every term is the square of a real, and is infinite otherwise. -/
theorem sum_squares {n : ℕ} (f : Fin n → EReal) (s : Finset (Fin n)) :
    ((∀ i ∈ s, IsReal (f i)) ∧ ∃ r : ℝ, 0 ≤ r ∧ ∑ i ∈ s, f i * f i = (r : EReal)) ∨ ∑ i ∈ s, f i * f i = ⊤ := by
  induction s using Finset.induction_on with
  | empty => exact Or.inl ⟨by simp, 0, le_refl _, by simp⟩
  | insert a s ha ih =>
    rw [Finset.sum_insert ha]
    have hn : 0 ≤ ∑ i ∈ s, f i * f i := Finset.sum_nonneg fun i _ => square_nonneg (f i)
    rcases ih with ⟨hs, r, hr, e⟩ | e
    · by_cases h : IsReal (f a)
      · obtain ⟨x, hx⟩ := h
        refine Or.inl ⟨fun i hi => ?_, ?_⟩
        · rcases Finset.mem_insert.mp hi with rfl | hi
          · exact ⟨x, hx⟩
          · exact hs i hi
        · rw [e, hx, ← EReal.coe_mul, ← EReal.coe_add]
          exact ⟨_, add_nonneg (mul_self_nonneg x) hr, rfl⟩
      · right
        have ht : f a * f a = ⊤ := by
          rcases eq_or_ne (f a) ⊤ with h1 | h1
          · rw [h1]; simp
          · rcases eq_or_ne (f a) ⊥ with h2 | h2
            · rw [h2]; simp
            · exact absurd ⟨(f a).toReal, (EReal.coe_toReal h1 h2).symm⟩ h
        rw [ht, e]
        exact EReal.top_add_coe r
    · right
      rw [e]
      refine EReal.add_top_of_ne_bot fun h => ?_
      have := square_nonneg (f a)
      rw [h] at this
      simp at this

/-- A number of a row over the root of the row's mean square is real, also where the row has infinite numbers: there the
    inverse root is zero. -/
theorem norm_real (f : Fin 1024 → EReal) (k : Fin 1024) :
    IsReal (f k * Ideal.rsqrt (Ideal.div (∑ j : Fin 1024, f j * f j) (Ideal.ofBits .f32 0x44800000#32)
      + Ideal.ofBits .f32 0x358637BD#32)) := by
  obtain ⟨e, he, h⟩ := weps
  rcases sum_squares f Finset.univ with ⟨hf, r, hr, hs⟩ | hs
  · rw [hs, w1024, h, Ideal.div_coe (by norm_num), ← EReal.coe_mul, ← EReal.coe_add, Ideal.rsqrt_coe]
    have hp : 0 < r * (1 / 1024) + e := by positivity
    rw [if_neg (not_lt.mpr hp.le), if_neg hp.ne']
    exact (hf k (Finset.mem_univ k)).mul ⟨_, rfl⟩
  · rw [hs, w1024, h, Ideal.div_coe (by norm_num), EReal.top_mul_coe_of_pos (by norm_num), EReal.top_add_coe, Ideal.rsqrt_top,
      mul_zero]
    exact ⟨0, rfl⟩

theorem hidden_real (x : FVec Ideal S2x8192x1024 .f32) (sh sc : FVec Ideal S2x1024 .f32) (g : FVec Ideal S1024 .f32)
    (hsh : ∀ y, IsReal (sh y)) (hsc : ∀ y, IsReal (sc y)) (hg : ∀ y, IsReal (g y))
    (b : Fin 2) (i : Fin 8192) (k : Fin 1024) : IsReal (Ref.hidden x sh sc g (ix3 b i k)) := by
  rw [Ref.hidden_at]
  exact (((norm_real (fun j => x (ix3 b i j)) k).mul (hg _)).mul (IsReal.add ⟨1, w1⟩ (hsc _))).add (hsh _)

theorem proj_real (x : FVec Ideal S2x8192x1024 .f32) (sh sc : FVec Ideal S2x1024 .f32) (g : FVec Ideal S1024 .f32)
    (w : FVec Ideal S1024x8208 .f32)
    (hsh : ∀ y, IsReal (sh y)) (hsc : ∀ y, IsReal (sc y)) (hg : ∀ y, IsReal (g y))
    (hw : ∀ y, IsReal (w y)) (b : Fin 2) (i : Fin 8192) (n : Fin 8208) :
    IsReal (Ref.proj (Ref.hidden x sh sc g) w (ix3 b i n)) := by
  rw [Ref.proj_at]
  exact isReal_sum _ (fun k => (hidden_real x sh sc g hsh hsc hg b i k).mul (hw _)) _

end Cert.Proj

end
-- ==== Proof.Proj.Blocks.lean ====
/- The blocks of the projection's windows at a grid point: point `t` is batch `t / 16` and the 512 rows from `512 (t % 16)`. -/
module

public import proofs.«01_k».proof.Proof.Proj.Host
public import proofs.«01_k».proof.Proof.Proj.Spec
public import Idealize.ShloMosaic.Lib.Pipeline.ValueKit

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL.Sem

variable {F : FTy → Type} [FloatOps F] [Named F]

variable (m : (ℓ : Loc nD τ sig) → Buf (Elt F) ℓ) (c : Dev nD) (t : Fin cfg0.N)

/-- The block indices of every window that the body reads, decided over the whole grid, -/
theorem idx_in : ∀ t : Fin cfg0.N, win0_0.index t = ![t.val, 0] ∧ win0_1.index t = ![t.val / 16, 0, 0]
    ∧ win0_2.index t = ![t.val / 16, 0, 0] ∧ win0_3.index t = ![0, 0] ∧ win0_4.index t = ![0, 0]
    ∧ win0_5.index t = ![0, 0] ∧ win0_6.index t = ![0, 0] ∧ win0_7.index t = ![t.val % 16, 0]
    ∧ win0_8.index t = ![t.val % 16, 0] ∧ win0_9.index t = ![0, 0] :=
  (by decide +kernel : ∀ t : Fin grid0.N, _)

/-- and of every window that it writes. -/
theorem idx_out : ∀ t : Fin cfg0.N, win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

theorem t_lt (t : Fin cfg0.N) : t.val < 32 := lt_of_lt_of_eq t.isLt (show cfg0.N = 32 from N_0)

/-- The batch of a point, and the position of its row `p`. -/
def bOf (t : Fin cfg0.N) : Fin 2 := ⟨t.val / 16, by have := t_lt t; omega⟩
def iOf (t : Fin cfg0.N) (p : Fin 512) : Fin 8192 := ⟨512 * (t.val % 16) + p.val, by omega⟩

theorem row_eq (p : Fin 512) : (rowOf (bOf t) (iOf t p)).val = t.val * 512 + p.val := by
  simp only [rowOf, bOf, iOf]
  omega

theorem blk0 (p : Fin 512) (k : Fin 1024) : iblk m c 0 t (ix2 p k) = V m c main_v32 (ix2 (rowOf (bOf t) (iOf t p)) k) := by
  have h := row_eq t p
  blk_ext [iblk, idx_in t]
theorem blk1 (k : Fin 1024) : iblk m c 1 t (ix3 0 0 k) = V m c main_v33 (ix3 (bOf t) 0 k) := by
  unfold bOf
  blk_ext [iblk, idx_in t]
theorem blk2 (k : Fin 1024) : iblk m c 2 t (ix3 0 0 k) = V m c main_v34 (ix3 (bOf t) 0 k) := by
  unfold bOf
  blk_ext [iblk, idx_in t]
theorem blk3 (k : Fin 1024) : iblk m c 3 t (ix2 0 k) = V m c main_v35 (ix2 0 k) := by
  blk_ext [iblk, idx_in t]
theorem blk4 (k : Fin 1024) (n : Fin 3072) : iblk m c 4 t (ix2 k n) = V m c main_v37 (ix2 k n) := by
  blk_ext [iblk, idx_in t]
theorem blk5 (e : Fin 128) : iblk m c 5 t (ix2 0 e) = V m c main_v38 (ix2 0 e) := by
  blk_ext [iblk, idx_in t]
theorem blk6 (e : Fin 128) : iblk m c 6 t (ix2 0 e) = V m c main_v39 (ix2 0 e) := by
  blk_ext [iblk, idx_in t]
theorem blk7 (p : Fin 512) (e : Fin 128) : iblk m c 7 t (ix2 p e) = V m c main_v26 (ix2 (iOf t p) e) := by
  unfold iOf
  blk_ext [iblk, idx_in t]
theorem blk8 (p : Fin 512) (e : Fin 128) : iblk m c 8 t (ix2 p e) = V m c main_v31 (ix2 (iOf t p) e) := by
  unfold iOf
  blk_ext [iblk, idx_in t]
theorem blk9 : iblk m c 9 t = V m c main_v8 := by
  funext y
  blk_ext [iblk, idx_in t]

end Cert.Proj

end
-- ==== Proof.Proj.Value.lean ====
/- The projection kernel's five arrays are the reference's, where the modulation, the gain and the weight are real. -/
module

public import proofs.«01_k».proof.Proof.Proj.Core
public import proofs.«01_k».proof.Proof.Proj.Real
public import proofs.«01_k».proof.Proof.Proj.Blocks
public import proofs.«01_k».proof.Proof.HostPrep

@[expose] public section

set_option maxRecDepth 16384

noncomputable section

namespace Cert.Proj

open Cert.Kernel2Ideal Cert.Kernel2Ideal.Gen
open Idealize.ShloMosaic Idealize.ShloMosaic.TcCoe
open Idealize.SL.Sem

variable (m : (ℓ : Loc nD τ sig) → Buf (Elt Ideal) ℓ) (c : Dev nD)

/-- The modulation, the gain and the weight are arrays of reals. -/
structure ArgsReal : Prop where
  shift : ∀ y, IsReal ((m ((c.tc : Thread nD τ).loc main_arg1) : FVec Ideal S2x1024 .f32) y)
  scale : ∀ y, IsReal ((m ((c.tc : Thread nD τ).loc main_arg2) : FVec Ideal S2x1024 .f32) y)
  gain : ∀ y, IsReal ((m ((c.tc : Thread nD τ).loc main_arg3) : FVec Ideal S1024 .f32) y)
  w : ∀ y, IsReal ((m ((c.tc : Thread nD τ).loc main_arg4) : FVec Ideal S1024x8208 .f32) y)

/-- The reference's product, of the kernel's arguments, -/
def prod : FVec Ideal Cert.Reference2Ideal.S2x8192x8208 .f32 :=
  Ref.proj (Ref.hidden (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg4))

/-- the queries' gain -/
def qGain : FVec Ideal Cert.Reference2Ideal.S2x64 .f32 := m ((c.tc : Thread nD τ).loc main_arg5)
/-- and the keys'. -/
def kGain : FVec Ideal Cert.Reference2Ideal.S2x64 .f32 := m ((c.tc : Thread nD τ).loc main_arg6)

variable (t : Fin cfg0.N)

/-- The product the body forms at point `t`. -/
def bodyProd : FVec Ideal S512x3072 .f32 := k0_pay4 (iblk m c 0 t) (iblk m c 3 t) (iblk m c 2 t) (iblk m c 1 t) (iblk m c 4 t)

/-- It is the reference's product, in the rows of the point and the columns the kernel takes. -/
theorem bodyProd_at (p : Fin 512) (n : Fin 3072) :
    bodyProd m c t (ix2 p n) = prod m c (ix3 (bOf t) (iOf t p) (⟨3088 + n.val, by omega⟩ : Fin 8208)) := by
  have e0 : ∀ k : Fin 1024, iblk m c 0 t (ix2 p k) = m ((c.tc : Thread nD τ).loc main_arg0) (ix3 (bOf t) (iOf t p) k) := fun k => by
    rw [blk0, entry_rows]; exact rows_arg _ _ _ _
  have e1 : ∀ k : Fin 1024, iblk m c 1 t (ix3 0 0 k) = m ((c.tc : Thread nD τ).loc main_arg1) (ix2 (bOf t) k) := fun k => by
    rw [blk1, entry_shift]; exact batch_arg _ _ _
  have e2 : ∀ k : Fin 1024, iblk m c 2 t (ix3 0 0 k) = m ((c.tc : Thread nD τ).loc main_arg2) (ix2 (bOf t) k) := fun k => by
    rw [blk2, entry_scale]; exact batch_arg _ _ _
  have e3 : ∀ k : Fin 1024, iblk m c 3 t (ix2 0 k) = m ((c.tc : Thread nD τ).loc main_arg3) (ix1 k) := fun k => by
    rw [blk3, entry_gain]; exact gain_arg _ _
  have e4 : ∀ k : Fin 1024, iblk m c 4 t (ix2 k n)
      = m ((c.tc : Thread nD τ).loc main_arg4) (ix2 k (⟨3088 + n.val, by omega⟩ : Fin 8208)) := fun k => by
    rw [blk4, entry_w]; exact w_arg _ _ _
  refine (rows_at _ _ _ _ _ p n).trans ?_
  unfold prod
  rw [Ref.proj_at]
  refine Finset.sum_congr rfl fun k _ => ?_
  rw [Ref.hidden_at]
  simp only [e0, e1, e2, e3, e4]

variable (hr : ArgsReal m c)
include hr

theorem bodyProd_real (p : Fin 512) (n : Fin 3072) : IsReal (bodyProd m c t (ix2 p n)) := by
  rw [bodyProd_at]
  exact proj_real _ _ _ _ _ hr.shift hr.scale hr.gain hr.w _ _ _

omit hr in
theorem cos_at (p : Fin 512) (e : Fin 128) : k0_pay5 (iblk m c 7 t) (ix2 p e)
    = Ideal.cos (Ref.angles (F := Ideal) (ix2 (iOf t p) (⟨e.val % 32, by omega⟩ : Fin 32))) := by
  refine Eq.trans (b := iblk m c 7 t (ix2 p e)) (by pointwise [k0_pay5]) ?_
  rw [blk7, entry_cos]
  exact cosTab_at _ _ _

omit hr in
theorem sin_at (p : Fin 512) (e : Fin 128) : k0_pay6 (iblk m c 8 t) (ix2 p e)
    = if e.val % 64 < 32 then -Ideal.sin (Ref.angles (F := Ideal) (ix2 (iOf t p) (⟨e.val % 32, by omega⟩ : Fin 32)))
      else Ideal.sin (Ref.angles (F := Ideal) (ix2 (iOf t p) (⟨e.val % 32, by omega⟩ : Fin 32))) := by
  refine Eq.trans (b := iblk m c 8 t (ix2 p e)) (by pointwise [k0_pay6]) ?_
  rw [blk8, entry_sin]
  exact sinTab_at _ _ _

omit hr in
theorem ones_eq : shapeCast S128x128 (iblk m c 9 t) shapeCasts_S128x128_S128x128 = onesTab (F := Ideal) := by
  rw [blk9, entry_ones]
  funext y
  obtain ⟨l, e, rfl⟩ : ∃ (l : Fin 128) (e : Fin 128), y = ix2 l e := ⟨y 0, y 1, eq_ix2 y⟩
  pointwise []

omit hr in
theorem qGain_at (μ : Fin 2) (d : Fin 64) :
    shapeCast S1x128 (iblk m c 5 t) shapeCasts_S1x128_S1x128 (ix2 0 (lane μ d)) = qGain m c (ix2 μ d) := by
  refine Eq.trans (b := iblk m c 5 t (ix2 0 (lane μ d))) (by pointwise []) ?_
  rw [blk5, entry_qg]
  exact head_gain_arg _ _ _

omit hr in
theorem kGain_at (μ : Fin 2) (d : Fin 64) :
    shapeCast S1x128 (iblk m c 6 t) shapeCasts_S1x128_S1x128 (ix2 0 (lane μ d)) = kGain m c (ix2 μ d) := by
  refine Eq.trans (b := iblk m c 6 t (ix2 0 (lane μ d))) (by pointwise []) ?_
  rw [blk6, entry_kg]
  exact head_gain_arg _ _ _

/-- The keys the body stores, -/
theorem keys_at (p : Fin 512) (h : Fin 8) (μ : Fin 2) (d : Fin 64) :
    keysOut (iblk m c 0 t) (iblk m c 1 t) (iblk m c 2 t) (iblk m c 3 t) (iblk m c 4 t) (iblk m c 6 t) (iblk m c 7 t)
      (iblk m c 8 t) (iblk m c 9 t) (ix2 p (colOf h (lane μ d)))
      = Ref.resK (prod m c) (kGain m c) (ix2 (rowOf (bOf t) (iOf t p)) (colOf h (lane μ d))) := by
  rw [Ref.resK_at]
  unfold keysOut
  rw [ones_eq]
  refine (heads_half _ _ _ _ (fun j => Ref.angles (F := Ideal) (ix2 (iOf t p) j)) p h μ d
    (fun n => ?_) (cos_at m c t p) (sin_at m c t p)).trans ?_
  · rw [partK_at]
    exact bodyProd_real m c t hr p _
  · refine congrArg₂ (fun z g => rot (nrm z g) (fun j => Ref.angles (F := Ideal) (ix2 (iOf t p) j)) d)
      (funext fun e => ?_) (funext fun e => kGain_at m c t μ e)
    rw [partK_at]
    refine (bodyProd_at m c t p _).trans (congrArg (fun n => prod m c (ix3 (bOf t) (iOf t p) n)) (Fin.ext ?_))
    simp only []
    omega

/-- and the queries. -/
theorem queries_at (p : Fin 512) (h : Fin 8) (μ : Fin 2) (d : Fin 64) :
    queriesOut (iblk m c 0 t) (iblk m c 1 t) (iblk m c 2 t) (iblk m c 3 t) (iblk m c 4 t) (iblk m c 5 t) (iblk m c 7 t)
      (iblk m c 8 t) (iblk m c 9 t) (ix2 p (colOf h (lane μ d)))
      = Ref.resQ (prod m c) (qGain m c) (ix2 (rowOf (bOf t) (iOf t p)) (colOf h (lane μ d))) := by
  rw [Ref.resQ_at, Cert.Attn.scale_word]
  unfold queriesOut
  rw [ones_eq]
  refine congrArg₂ (· * ·) (y' := ((Cert.Attn.scale : ℝ) : EReal)) ?_ ?_
  · refine (heads_half _ _ _ _ (fun j => Ref.angles (F := Ideal) (ix2 (iOf t p) j)) p h μ d
      (fun n => ?_) (cos_at m c t p) (sin_at m c t p)).trans ?_
    · rw [partQ_at]
      exact bodyProd_real m c t hr p _
    · refine congrArg₂ (fun z g => rot (nrm z g) (fun j => Ref.angles (F := Ideal) (ix2 (iOf t p) j)) d)
        (funext fun e => ?_) (funext fun e => qGain_at m c t μ e)
      rw [partQ_at]
      exact bodyProd_at m c t p _
  · have e : Named.named (F := Ideal) (φ := .f32) κ "q_scale" 0x3E38AA3B#32 = (((Real.log 2)⁻¹ * (1 / 8) : ℝ) : EReal) := by
      simp [Named.named, κ]
    refine e.trans ?_
    unfold Cert.Attn.scale
    rw [mul_comm, one_div (Real.log 2)]

omit hr in
/-- The values the body stores. -/
theorem values_at (p : Fin 512) (n : Fin 1024) :
    k0_pay2 (k0_pay4 (iblk m c 0 t) (iblk m c 3 t) (iblk m c 2 t) (iblk m c 1 t) (iblk m c 4 t)) (ix2 p n)
      = Ref.resV (prod m c) (ix2 (rowOf (bOf t) (iOf t p)) n) := by
  rw [Ref.partV_at, partV_at]
  refine (bodyProd_at m c t p _).trans (congrArg (fun n => prod m c (ix3 (bOf t) (iOf t p) n)) (Fin.ext ?_))
  simp only []
  omega

theorem final11 : (dats m 0 c).arrAt 11 (cfgs 0).N = truncf (F := Ideal) .bf16 (Ref.resQ (prod m c) (qGain m c)) bitsLt_bf16_f32 := by
  refine (dats m 0 c).arrAt_eq_of_covers 11 _ (by decide +kernel) fun t _ y => ?_
  blk_simp
  rw [after0_11, out11_eq]
  obtain ⟨p, n, rfl⟩ : ∃ (p : Fin 512) (n : Fin 1024), y = ix2 p n := ⟨y 0, y 1, eq_ix2 y⟩
  obtain ⟨h, μ, d, rfl⟩ := col_cases n
  refine (queries_at m c t hr p h μ d).trans (congrArg (Ref.resQ (prod m c) (qGain m c)) ?_)
  have h := row_eq t p
  blk_ext [idx_out t]

theorem final12 : (dats m 0 c).arrAt 12 (cfgs 0).N = Ref.resK (prod m c) (kGain m c) := by
  refine (dats m 0 c).arrAt_eq_of_covers 12 _ (by decide +kernel) fun t _ y => ?_
  blk_simp
  rw [after0_12, out12_eq]
  obtain ⟨p, n, rfl⟩ : ∃ (p : Fin 512) (n : Fin 1024), y = ix2 p n := ⟨y 0, y 1, eq_ix2 y⟩
  obtain ⟨h, μ, d, rfl⟩ := col_cases n
  refine (keys_at m c t hr p h μ d).trans (congrArg (Ref.resK (prod m c) (kGain m c)) ?_)
  have h := row_eq t p
  blk_ext [idx_out t]

theorem final13 : (dats m 0 c).arrAt 13 (cfgs 0).N = truncf (F := Ideal) .bf16 (Ref.resK (prod m c) (kGain m c)) bitsLt_bf16_f32 := by
  refine (dats m 0 c).arrAt_eq_of_covers 13 _ (by decide +kernel) fun t _ y => ?_
  blk_simp
  rw [after0_13, out13_eq]
  obtain ⟨p, n, rfl⟩ : ∃ (p : Fin 512) (n : Fin 1024), y = ix2 p n := ⟨y 0, y 1, eq_ix2 y⟩
  obtain ⟨h, μ, d, rfl⟩ := col_cases n
  refine (keys_at m c t hr p h μ d).trans (congrArg (Ref.resK (prod m c) (kGain m c)) ?_)
  have h := row_eq t p
  blk_ext [idx_out t]

omit hr in
theorem final14 : (dats m 0 c).arrAt 14 (cfgs 0).N = Ref.resV (prod m c) := by
  refine (dats m 0 c).arrAt_eq_of_covers 14 _ (by decide +kernel) fun t _ y => ?_
  blk_simp
  rw [after0_14, out14_eq]
  obtain ⟨p, n, rfl⟩ : ∃ (p : Fin 512) (n : Fin 1024), y = ix2 p n := ⟨y 0, y 1, eq_ix2 y⟩
  refine (values_at m c t p n).trans (congrArg (Ref.resV (prod m c)) ?_)
  have h := row_eq t p
  blk_ext [idx_out t]

omit hr in
theorem final15 : (dats m 0 c).arrAt 15 (cfgs 0).N = truncf (F := Ideal) .bf16 (Ref.resV (prod m c)) bitsLt_bf16_f32 := by
  refine (dats m 0 c).arrAt_eq_of_covers 15 _ (by decide +kernel) fun t _ y => ?_
  blk_simp
  rw [after0_15, out15_eq]
  obtain ⟨p, n, rfl⟩ : ∃ (p : Fin 512) (n : Fin 1024), y = ix2 p n := ⟨y 0, y 1, eq_ix2 y⟩
  refine (values_at m c t p n).trans (congrArg (Ref.resV (prod m c)) ?_)
  have h := row_eq t p
  blk_ext [idx_out t]

end Cert.Proj

end
-- ==== Proof.Proj.Claims.lean ====
/- The claims of the projection: the frames, the site of the idealization, and the equality of the five results. -/
module

public import proofs.«01_k».proof.Defs
public import proofs.«01_k».proof.Proof.Gen.Kernel2.Frame
public import proofs.«01_k».proof.Proof.Proj.Value
public import proofs.«01_k».proof.Proof.Finite
public import Idealize.ShloMosaic.Lib.Claim

@[expose] public section

set_option maxRecDepth 16384

noncomputable section

namespace Cert.Proj

open Idealize.ShloMosaic Idealize.SL.Sem

/-- The broadcasts of the precondition. -/
theorem finite2Facts : Cert.Pre_finite2.Facts := by
  constructor <;> decide

/-- An array of reals, element by element. -/
theorem isReal_of_eq {S : Shape} {x : S.Idx → EReal} {f : S.Idx → ℝ} (h : x = Cert.Attn.up f) (y : S.Idx) : IsReal (x y) :=
  ⟨f y, congrFun h y⟩

open Cert.Kernel2Ideal in
/-- Under the precondition the modulation, the gain and the weight are arrays of reals. -/
theorem args_real [hPre : Cert.Pre_finite2.Facts] (m : (ℓ : Loc nD τ sig) → Buf (Elt Ideal) ℓ)
    (hpre : Cert.Pre_Kernel2Ideal_finite2 m) (c : Dev nD) : ArgsReal m c := by
  obtain ⟨h1, h2, h3, h4⟩ := hpre c
  exact ⟨isReal_of_eq (Cert.Attn.real_of_cmp _ _ h1),
    isReal_of_eq (Cert.Attn.real_of_cmp _ _ h2), isReal_of_eq (Cert.Attn.real_of_cmp _ _ h3),
    isReal_of_eq (Cert.Attn.real_of_cmp _ _ h4)⟩

/-- The kernel as it is: the frame. -/
theorem frame_p : @Cert.quiescent_Kernel2 Cert.Kernel2.Gen.facts := fun m g _ => Cert.Kernel2.Gen.frame m g

/-- The kernel over the extended reals: the frame. -/
theorem frame_pi : @Cert.quiescent_Kernel2Ideal Cert.Kernel2Ideal.Gen.facts := fun m g _ => Cert.Kernel2Ideal.Gen.frame m g

theorem frame_pi_finite : @Cert.quiescent_Kernel2Ideal_pre_finite2 Cert.Kernel2Ideal.Gen.facts finite2Facts :=
  fun m g _ => Cert.Kernel2Ideal.Gen.frame m g

/-- The reference: the frame. It declares no semaphore. -/
theorem frame_ri : @Cert.quiescent_Reference2Ideal Cert.Reference2Ideal.Gen.facts := fun m g _ =>
  (θ_run Cert.Reference2Ideal.defs _ _).mono
    (fun r h => ⟨fun c => (h c).2.2.2.2.2, sem_eq_zero_of_no_sems (by decide) r.2⟩)
    (Cert.Reference2Ideal.Value.run (F := Ideal) m g)

theorem frame_ri_finite : @Cert.quiescent_Reference2Ideal_pre_finite2 Cert.Reference2Ideal.Gen.facts finite2Facts :=
  fun m g _ => frame_ri m g trivial

/-- The scale constant stands for the quotient of an eighth by the logarithm of two. -/
theorem preserves : Cert.preserves_Kernel2_Kernel2Ideal :=
  IdealRules.named_const.statement Cert.Kernel2Ideal.κ "q_scale" .f32 0x3E38AA3B#32 _ rfl

/-- The two programs end with the same five arrays. -/
theorem algebraic : @Cert.algebraic_Kernel2Ideal_Reference2Ideal_pre_finite2 Cert.Kernel2Ideal.Gen.facts
    Cert.Reference2Ideal.Gen.facts finite2Facts := by
  intro m g m' g' hpre hagree
  have hr : ∀ c, ArgsReal m c := fun c => args_real (hPre := finite2Facts) m hpre c
  have hp : ∀ c, Ref.projOf m' c = prod m c := fun c => by
    obtain ⟨e0, e1, e2, e3, e4, -, -⟩ := hagree c
    unfold Ref.projOf prod
    rw [e0, e1, e2, e3, e4]
  refine ⟨fun c => truncf (F := Ideal) .bf16 (Ref.resQ (prod m c) (qGain m c)) Cert.Reference2Ideal.Gen.bitsLt_bf16_f32,
    fun c => Ref.resK (prod m c) (kGain m c),
    fun c => truncf (F := Ideal) .bf16 (Ref.resK (prod m c) (kGain m c)) Cert.Reference2Ideal.Gen.bitsLt_bf16_f32,
    fun c => Ref.resV (prod m c),
    fun c => truncf (F := Ideal) .bf16 (Ref.resV (prod m c)) Cert.Reference2Ideal.Gen.bitsLt_bf16_f32, ?_, ?_⟩
  · refine (θ_run Cert.Kernel2Ideal.defs _ _).mono (fun r h c => ?_) (Cert.Kernel2Ideal.Value.run_blocks m g)
    obtain ⟨h0, h1, h2, h3, h4, ha⟩ := h c
    exact ⟨h0.trans (final11 m c (hr c)), h1.trans (final12 m c (hr c)), h2.trans (final13 m c (hr c)),
      h3.trans (final14 m c), h4.trans (final15 m c), ha⟩
  · refine (θ_run Cert.Reference2Ideal.defs _ _).mono (fun r h c => ?_) (Cert.Reference2Ideal.Value.run (F := Ideal) m' g')
    obtain ⟨h0, h1, h2, h3, h4, ha⟩ := h c
    obtain ⟨-, -, -, -, -, e5, e6⟩ := hagree c
    have k0 := h0.trans (Ref.q_eq m' c)
    have k1 := h1.trans (Ref.k_eq m' c)
    have k2 := h2.trans (Ref.kb_eq m' c)
    have k3 : r.2.mem ((c.tc : Thread Cert.Reference2Ideal.nD Cert.Reference2Ideal.τ).loc Cert.Reference2Ideal.main_v116)
        = Ref.resV (Ref.projOf m' c) := h3
    have k4 : r.2.mem ((c.tc : Thread Cert.Reference2Ideal.nD Cert.Reference2Ideal.τ).loc Cert.Reference2Ideal.main_v119)
        = truncf (F := Ideal) .bf16 (Ref.resV (Ref.projOf m' c)) Cert.Reference2Ideal.Gen.bitsLt_bf16_f32 := h4
    rw [hp] at k0 k1 k2 k3 k4
    rw [e5] at k0
    rw [e6] at k1 k2
    exact ⟨k0, k1, k2, k3, k4, ha⟩

end Cert.Proj

end
-- ==== Proof.Post.Stages.lean ====
/- The reference of the gated merge in stages, each a function of arrays: the modulated rows, the gates, the two mixers'
   normalized heads, their products, and the merge. -/
module

public import proofs.«01_k».proof.Proof.Gen.Reference3Ideal.Run
public import Idealize.ShloMosaic.Lib.Pointwise

@[expose] public section

set_option maxRecDepth 16384

noncomputable section

namespace Cert.Post.Ref

open Cert.Reference3Ideal Cert.Reference3Ideal.Gen
open Idealize.ShloMosaic Idealize.ShloMosaic.TcCoe Idealize.SL.Sem Idealize.ShloMosaic.StableHlo

variable {F : FTy → Type} [FloatOps F]

/-- The rows over the roots of their mean squares, times the gain, modulated by scale and shift. -/
def hidden (x : FVec F S2x8192x1024 .f32) (shift scale : FVec F S2x1024 .f32) (g : FVec F S1024 .f32) :
    FVec F S2x8192x1024 .f32 :=
  addf (mulf (mulf (mulf x (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf x x) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
      (broadcastInDim S2x8192x1024 ![0, 1, 2] bcast_S1x1x1024_S2x8192x1024_0_1_2
        (broadcastInDim S1x1x1024 ![2] bcast_S1024_S1x1x1024_2 g)))
      (broadcastInDim S2x8192x1024 ![0, 1, 2] bcast_S2x1x1024_S2x8192x1024_0_1_2
        (addf (broadcastInDim S2x1x1024 ![] bcast_S_S2x1x1024 (constant S_ .f32 0x3F800000#32))
          (broadcastInDim S2x1x1024 ![0, 2] bcast_S2x1024_S2x1x1024_0_2 scale))))
    (broadcastInDim S2x8192x1024 ![0, 1, 2] bcast_S2x1x1024_S2x8192x1024_0_1_2
      (broadcastInDim S2x1x1024 ![0, 2] bcast_S2x1024_S2x1x1024_0_2 shift))

/-- The columns of the gates in the product with the first weight. -/
def gates (h : FVec F S2x8192x1024 .f32) (w : FVec F S1024x8208 .f32) : FVec F S2x8192x2048 .f32 :=
  extractStridedSlice S2x8192x2048 ![0, 0, 6160]
    (Host.dotGeneral dot_S2x8192x1024_S1024x8208_S2x8192x8208_2_0_01_1_n_n none h w) slices_S2x8192x8208_S2x8192x2048_0_0_6160

/-- The logistic function of the first half of the gates, -/
def gateA (u : FVec F S2x8192x2048 .f32) : FVec F S2x8192x1024 .f32 :=
  Host.divf (broadcastInDim S2x8192x1024 ![] bcast_S_S2x8192x1024 (constant S_ .f32 0x3F800000#32))
    (addf (broadcastInDim S2x8192x1024 ![] bcast_S_S2x8192x1024 (constant S_ .f32 0x3F800000#32))
      (Host.exp (Host.negf (extractStridedSlice S2x8192x1024 ![0, 0, 0] u slices_S2x8192x2048_S2x8192x1024_0_0_0))))

/-- and of the second. -/
def gateB (u : FVec F S2x8192x2048 .f32) : FVec F S2x8192x1024 .f32 :=
  Host.divf (broadcastInDim S2x8192x1024 ![] bcast_S_S2x8192x1024 (constant S_ .f32 0x3F800000#32))
    (addf (broadcastInDim S2x8192x1024 ![] bcast_S_S2x8192x1024 (constant S_ .f32 0x3F800000#32))
      (Host.exp (Host.negf (extractStridedSlice S2x8192x1024 ![0, 0, 1024] u slices_S2x8192x2048_S2x8192x1024_0_0_1024))))

/-- The first mixer's heads normalized, -/
def normA (o : FVec F S2x8192x4x256 .f32) (g : FVec F S256 .f32) : FVec F S2x8192x4x256 .f32 :=
  mulf (mulf o (broadcastInDim S2x8192x4x256 ![0, 1, 2, 3] bcast_S2x8192x4x1_S2x8192x4x256_0_1_2_3
      (Host.rsqrt (addf (Host.divf (broadcastInDim S2x8192x4x1 ![0, 1, 2] bcast_S2x8192x4_S2x8192x4x1_0_1_2
          (Host.reduceAdd (mulf o o) (constant S_ .f32 0x00000000#32) reducesTo_S2x8192x4x256_S2x8192x4_d3 h_S_))
        (broadcastInDim S2x8192x4x1 ![] bcast_S_S2x8192x4x1 (constant S_ .f32 0x43800000#32)))
        (broadcastInDim S2x8192x4x1 ![] bcast_S_S2x8192x4x1 (constant S_ .f32 0x358637BD#32))))))
    (broadcastInDim S2x8192x4x256 ![0, 1, 2, 3] bcast_S1x1x1x256_S2x8192x4x256_0_1_2_3
      (broadcastInDim S1x1x1x256 ![3] bcast_S256_S1x1x1x256_3 g))

/-- and times the gate of its own. -/
def rowsA (o : FVec F S2x8192x4x256 .f32) (gr : FVec F S2x8192x1024 .f32) (g : FVec F S256 .f32) : FVec F S2x8192x1024 .f32 :=
  shapeCast _ (mulf (normA o g) (mulf (shapeCast _ gr shapeCasts_S2x8192x1024_S2x8192x4x256)
    (Host.divf (broadcastInDim S2x8192x4x256 ![] bcast_S_S2x8192x4x256 (constant S_ .f32 0x3F800000#32))
      (addf (broadcastInDim S2x8192x4x256 ![] bcast_S_S2x8192x4x256 (constant S_ .f32 0x3F800000#32))
        (Host.exp (Host.negf (shapeCast _ gr shapeCasts_S2x8192x1024_S2x8192x4x256)))))))
    shapeCasts_S2x8192x4x256_S2x8192x1024

/-- The second mixer's heads normalized, -/
def normB (o : FVec F S2x8192x8x128 .f32) (g : FVec F S128 .f32) : FVec F S2x8192x8x128 .f32 :=
  mulf (mulf o (broadcastInDim S2x8192x8x128 ![0, 1, 2, 3] bcast_S2x8192x8x1_S2x8192x8x128_0_1_2_3
      (Host.rsqrt (addf (Host.divf (broadcastInDim S2x8192x8x1 ![0, 1, 2] bcast_S2x8192x8_S2x8192x8x1_0_1_2
          (Host.reduceAdd (mulf o o) (constant S_ .f32 0x00000000#32) reducesTo_S2x8192x8x128_S2x8192x8_d3 h_S_))
        (broadcastInDim S2x8192x8x1 ![] bcast_S_S2x8192x8x1 (constant S_ .f32 0x43000000#32)))
        (broadcastInDim S2x8192x8x1 ![] bcast_S_S2x8192x8x1 (constant S_ .f32 0x358637BD#32))))))
    (broadcastInDim S2x8192x8x128 ![0, 1, 2, 3] bcast_S1x1x1x128_S2x8192x8x128_0_1_2_3
      (broadcastInDim S1x1x1x128 ![3] bcast_S128_S1x1x1x128_3 g))

/-- and times a constant. -/
def rowsB (o : FVec F S2x8192x8x128 .f32) (g : FVec F S128 .f32) : FVec F S2x8192x1024 .f32 :=
  shapeCast _ (mulf (normB o g) (broadcastInDim S2x8192x8x128 ![] bcast_S_S2x8192x8x128 (constant S_ .f32 0x3F4CCCCD#32)))
    shapeCasts_S2x8192x8x128_S2x8192x1024

/-- The product with a square weight. -/
def dot (y : FVec F S2x8192x1024 .f32) (w : FVec F S1024x1024 .f32) : FVec F S2x8192x1024 .f32 :=
  Host.dotGeneral dot_S2x8192x1024_S1024x1024_S2x8192x1024_2_0_01_1_n_n none y w

/-- The rows plus their gate times the gated sum of the two mixers' rows times the last weight. -/
def merge (x : FVec F S2x8192x1024 .f32) (gt : FVec F S2x1024 .f32) (u : FVec F S2x8192x2048 .f32)
    (ya yb : FVec F S2x8192x1024 .f32) (w : FVec F S1024x1024 .f32) : FVec F S2x8192x1024 .f32 :=
  addf x (mulf (broadcastInDim S2x8192x1024 ![0, 1, 2] bcast_S2x1x1024_S2x8192x1024_0_1_2
    (broadcastInDim S2x1x1024 ![0, 2] bcast_S2x1024_S2x1x1024_0_2 gt))
    (dot (addf (mulf (gateA u) ya) (mulf (gateB u) yb)) w))

/-- Batches and positions as one axis of rows. -/
def flat (y : FVec F S2x8192x1024 .f32) : FVec F S16384x1024 .f32 :=
  shapeCast _ y shapeCasts_S2x8192x1024_S16384x1024

variable (m : (ℓ : Loc nD τ sig) → Buf (Elt F) ℓ) (c : Dev nD)

/-- The merged rows, of the arguments. -/
def mergedOf : FVec F S2x8192x1024 .f32 :=
  merge (m ((c.tc : Thread nD τ).loc main_arg0)) (m ((c.tc : Thread nD τ).loc main_arg6))
    (gates (hidden (m ((c.tc : Thread nD τ).loc main_arg0)) (m ((c.tc : Thread nD τ).loc main_arg4))
      (m ((c.tc : Thread nD τ).loc main_arg5)) (m ((c.tc : Thread nD τ).loc main_arg9))) (m ((c.tc : Thread nD τ).loc main_arg13)))
    (dot (rowsA (m ((c.tc : Thread nD τ).loc main_arg1)) (m ((c.tc : Thread nD τ).loc main_arg2))
      (m ((c.tc : Thread nD τ).loc main_arg11))) (m ((c.tc : Thread nD τ).loc main_arg14)))
    (dot (rowsB (m ((c.tc : Thread nD τ).loc main_arg3)) (m ((c.tc : Thread nD τ).loc main_arg12)))
      (m ((c.tc : Thread nD τ).loc main_arg15)))
    (m ((c.tc : Thread nD τ).loc main_arg16))

/-- The merged rows modulated again. -/
def hiddenOf : FVec F S2x8192x1024 .f32 :=
  hidden (mergedOf m c) (m ((c.tc : Thread nD τ).loc main_arg7)) (m ((c.tc : Thread nD τ).loc main_arg8))
    (m ((c.tc : Thread nD τ).loc main_arg10))

set_option maxHeartbeats 4000000 in
theorem merged_eq : Value.res_main_v101 m c = flat (mergedOf m c) := by
  unfold Value.res_main_v101 flat mergedOf merge dot gateA gateB gates rowsA rowsB normA normB hidden
  rfl

set_option maxHeartbeats 4000000 in
theorem hidden_eq : Value.res_main_v102 m c = flat (hiddenOf m c) := by
  unfold Value.res_main_v102 flat hiddenOf mergedOf merge dot gateA gateB gates rowsA rowsB normA normB hidden
  rfl

end Cert.Post.Ref

end
-- ==== Proof.Post.Spec.lean ====
/- One row after the mixers as the gated merge is to leave it, as functions of numbers: a modulated row, a normalized head,
   and the row plus the gated sum of the two mixers' rows times the last weight. -/
module

public import Idealize.ShloMosaic.Lib.Pointwise

@[expose] public section

set_option maxRecDepth 16384

noncomputable section

namespace Cert.Post

open Idealize.ShloMosaic

/-- A row over the root of its mean square, times the gain, modulated by scale and shift. -/
def modAt (x g sc sh : Fin 1024 → EReal) (k : Fin 1024) : EReal :=
  x k * Ideal.rsqrt (Ideal.div (∑ j : Fin 1024, x j * x j) (Ideal.ofBits .f32 0x44800000#32) + Ideal.ofBits .f32 0x358637BD#32)
    * g k * (Ideal.ofBits .f32 0x3F800000#32 + sc k) + sh k

/-- A head of `n` numbers over the root of its mean square, the mean taken by the word `w`, times the gain. -/
def headAt {n : ℕ} (w : BitVec 32) (z g : Fin n → EReal) (e : Fin n) : EReal :=
  z e * Ideal.rsqrt (Ideal.div (∑ j : Fin n, z j * z j) (Ideal.ofBits .f32 w) + Ideal.ofBits .f32 0x358637BD#32) * g e

/-- The row plus its gate times the gated sum of two rows times the last weight. -/
def mergeAt (x gt : Fin 1024 → EReal) (u : Fin 2048 → EReal) (ya yb : Fin 1024 → EReal) (w : Fin 1024 → Fin 1024 → EReal)
    (n : Fin 1024) : EReal :=
  x n + gt n * ∑ k : Fin 1024, (Ideal.logistic (u (⟨k.val, by omega⟩ : Fin 2048)) * ya k
    + Ideal.logistic (u (⟨1024 + k.val, by omega⟩ : Fin 2048)) * yb k) * w k n

/-- A column of an array of four heads of 256, -/
def colA (h : Fin 4) (e : Fin 256) : Fin 1024 := ⟨256 * h.val + e.val, by omega⟩
/-- and of eight heads of 128. -/
def colB (h : Fin 8) (e : Fin 128) : Fin 1024 := ⟨128 * h.val + e.val, by omega⟩

/-- A row of the flattened batches. -/
def rowOf (b : Fin 2) (i : Fin 8192) : Fin 16384 := ⟨8192 * b.val + i.val, by omega⟩

theorem colA_cases (n : Fin 1024) : ∃ (h : Fin 4) (e : Fin 256), n = colA h e :=
  ⟨⟨n.val / 256, by omega⟩, ⟨n.val % 256, by omega⟩, Fin.ext (by simp only [colA]; omega)⟩

theorem colB_cases (n : Fin 1024) : ∃ (h : Fin 8) (e : Fin 128), n = colB h e :=
  ⟨⟨n.val / 128, by omega⟩, ⟨n.val % 128, by omega⟩, Fin.ext (by simp only [colB]; omega)⟩

/-- The logistic function as the reference spells it. -/
theorem logistic_eq (x : EReal) :
    Ideal.div (Ideal.ofBits .f32 0x3F800000#32) (Ideal.ofBits .f32 0x3F800000#32 + Ideal.exp (-x)) = Ideal.logistic x := by
  have h : Ideal.ofBits .f32 0x3F800000#32 = (1 : EReal) := by
    simp [Ideal.ofBits, Ideal.ieee]
    rw [← EReal.coe_mul]
    norm_num
  rw [h]
  rfl

end Cert.Post

end
-- ==== Proof.Post.RefAt.lean ====
/- The reference of the gated merge read at one index, over the extended reals. -/
module

public import proofs.«01_k».proof.Proof.Post.Stages
public import proofs.«01_k».proof.Proof.Post.Spec

@[expose] public section

set_option maxRecDepth 16384

noncomputable section

namespace Cert.Post.Ref

open Cert.Reference3Ideal Cert.Reference3Ideal.Gen
open Idealize.ShloMosaic

theorem hidden_at (x : FVec Ideal S2x8192x1024 .f32) (sh sc : FVec Ideal S2x1024 .f32) (g : FVec Ideal S1024 .f32)
    (b : Fin 2) (i : Fin 8192) (k : Fin 1024) :
    hidden x sh sc g (ix3 b i k)
      = modAt (fun j => x (ix3 b i j)) (fun j => g (ix1 j)) (fun j => sc (ix2 b j)) (fun j => sh (ix2 b j)) k := by
  unfold modAt
  pointwise [hidden]

theorem gates_at (h : FVec Ideal S2x8192x1024 .f32) (w : FVec Ideal S1024x8208 .f32) (b : Fin 2) (i : Fin 8192) (n : Fin 2048) :
    gates h w (ix3 b i n) = ∑ k : Fin 1024, h (ix3 b i k) * w (ix2 k (⟨6160 + n.val, by omega⟩ : Fin 8208)) := by
  pointwise [gates]

theorem gateA_at (u : FVec Ideal S2x8192x2048 .f32) (b : Fin 2) (i : Fin 8192) (k : Fin 1024) :
    gateA u (ix3 b i k) = Ideal.logistic (u (ix3 b i (⟨k.val, by omega⟩ : Fin 2048))) := by
  rw [← logistic_eq]
  pointwise [gateA]

theorem gateB_at (u : FVec Ideal S2x8192x2048 .f32) (b : Fin 2) (i : Fin 8192) (k : Fin 1024) :
    gateB u (ix3 b i k) = Ideal.logistic (u (ix3 b i (⟨1024 + k.val, by omega⟩ : Fin 2048))) := by
  rw [← logistic_eq]
  pointwise [gateB]

theorem normA_at (o : FVec Ideal S2x8192x4x256 .f32) (g : FVec Ideal S256 .f32) (b : Fin 2) (i : Fin 8192) (h : Fin 4)
    (e : Fin 256) :
    normA o g (ix4 b i h e) = headAt 0x43800000#32 (fun j => o (ix4 b i h j)) (fun j => g (ix1 j)) e := by
  unfold headAt
  pointwise [normA]

theorem rowsA_at (o : FVec Ideal S2x8192x4x256 .f32) (gr : FVec Ideal S2x8192x1024 .f32) (g : FVec Ideal S256 .f32) (b : Fin 2)
    (i : Fin 8192) (h : Fin 4) (e : Fin 256) :
    rowsA o gr g (ix3 b i (colA h e)) = headAt 0x43800000#32 (fun j => o (ix4 b i h j)) (fun j => g (ix1 j)) e
      * (gr (ix3 b i (colA h e)) * Ideal.logistic (gr (ix3 b i (colA h e)))) := by
  rw [← normA_at, ← logistic_eq]
  pointwise [rowsA, colA]
  simp only [Nat.mul_comm 256]

theorem normB_at (o : FVec Ideal S2x8192x8x128 .f32) (g : FVec Ideal S128 .f32) (b : Fin 2) (i : Fin 8192) (h : Fin 8)
    (e : Fin 128) :
    normB o g (ix4 b i h e) = headAt 0x43000000#32 (fun j => o (ix4 b i h j)) (fun j => g (ix1 j)) e := by
  unfold headAt
  pointwise [normB]

theorem rowsB_at (o : FVec Ideal S2x8192x8x128 .f32) (g : FVec Ideal S128 .f32) (b : Fin 2) (i : Fin 8192) (h : Fin 8)
    (e : Fin 128) :
    rowsB o g (ix3 b i (colB h e)) = headAt 0x43000000#32 (fun j => o (ix4 b i h j)) (fun j => g (ix1 j)) e
      * Ideal.ofBits .f32 0x3F4CCCCD#32 := by
  rw [← normB_at]
  pointwise [rowsB, colB]

theorem dot_at (y : FVec Ideal S2x8192x1024 .f32) (w : FVec Ideal S1024x1024 .f32) (b : Fin 2) (i : Fin 8192) (n : Fin 1024) :
    dot y w (ix3 b i n) = ∑ k : Fin 1024, y (ix3 b i k) * w (ix2 k n) := by
  pointwise [dot]

theorem merge_at (x : FVec Ideal S2x8192x1024 .f32) (gt : FVec Ideal S2x1024 .f32) (u : FVec Ideal S2x8192x2048 .f32)
    (ya yb : FVec Ideal S2x8192x1024 .f32) (w : FVec Ideal S1024x1024 .f32) (b : Fin 2) (i : Fin 8192) (n : Fin 1024) :
    merge x gt u ya yb w (ix3 b i n) = mergeAt (fun j => x (ix3 b i j)) (fun j => gt (ix2 b j)) (fun j => u (ix3 b i j))
      (fun j => ya (ix3 b i j)) (fun j => yb (ix3 b i j)) (fun k n => w (ix2 k n)) n := by
  have e : ∀ k : Fin 1024, addf (mulf (gateA u) ya) (mulf (gateB u) yb) (ix3 b i k)
      = Ideal.logistic (u (ix3 b i (⟨k.val, by omega⟩ : Fin 2048))) * ya (ix3 b i k)
        + Ideal.logistic (u (ix3 b i (⟨1024 + k.val, by omega⟩ : Fin 2048))) * yb (ix3 b i k) := fun k => by
    rw [← gateA_at, ← gateB_at]
    pointwise []
  unfold mergeAt
  simp only [← e]
  rw [← dot_at]
  pointwise [merge]

theorem flat_at (y : FVec Ideal S2x8192x1024 .f32) (b : Fin 2) (i : Fin 8192) (n : Fin 1024) :
    flat y (ix2 (rowOf b i) n) = y (ix3 b i n) := by
  pointwise [flat, rowOf]

end Cert.Post.Ref

end
-- ==== Proof.Post.Body.lean ====
/- What the merge kernel's body stores, in stages: the modulated rows times the gates' columns, the two mixers' heads one
   block after another normalized, and the merge. The body spells the same block four times for the first mixer and eight
   times for the second. -/
module

public import proofs.«01_k».proof.Proof.Gen.Kernel3Ideal.Value
public import Idealize.ShloMosaic.Lib.Pipeline.ValueKit

@[expose] public section

set_option maxRecDepth 16384

noncomputable section

namespace Cert.Post

open Cert.Kernel3Ideal Cert.Kernel3Ideal.Gen
open Idealize.ShloMosaic Idealize.SL.Sem

variable {F : FTy → Type} [FloatOps F]

/-- A head of 256 over the root of its mean square, -/
def blockA (u : FVec F S256x256 .f32) : FVec F S256x256 .f32 :=
  mulf u (broadcastTo S256x256 (rsqrt (addf (divf (shapeCast S256x1
      (multiReduction .add [1] S256 (mulf u u) 0x00000000#32 reduces_S256x256_S256 (.inl rfl) rfl) shapeCasts_S256_S256x1)
    (broadcast S256x1 (Scalar.ofBits .f32 0x43800000#32))) (broadcast S256x1 (Scalar.ofBits .f32 0x358637BD#32))))
    broadcasts_S256x1_S256x256)

/-- and a head of 128. -/
def blockB (u : FVec F S256x128 .f32) : FVec F S256x128 .f32 :=
  mulf u (broadcastTo S256x128 (rsqrt (addf (divf (shapeCast S256x1
      (multiReduction .add [1] S256 (mulf u u) 0x00000000#32 reduces_S256x128_S256 (.inl rfl) rfl) shapeCasts_S256_S256x1)
    (broadcast S256x1 (Scalar.ofBits .f32 0x43000000#32))) (broadcast S256x1 (Scalar.ofBits .f32 0x358637BD#32))))
    broadcasts_S256x1_S256x128)

/-- Four heads of 256 side by side, -/
def headsA (z : FVec F S256x1024 .f32) : FVec F S256x1024 .f32 :=
  concatenate S256x1024 1
    [⟨S256x256, blockA (extractStridedSlice S256x256 ![0, 0] z slices_S256x1024_o0_0_S256x256)⟩,
     ⟨S256x256, blockA (extractStridedSlice S256x256 ![0, 256] z slices_S256x1024_o0_256_S256x256)⟩,
     ⟨S256x256, blockA (extractStridedSlice S256x256 ![0, 512] z slices_S256x1024_o0_512_S256x256)⟩,
     ⟨S256x256, blockA (extractStridedSlice S256x256 ![0, 768] z slices_S256x1024_o0_768_S256x256)⟩]
    concatenates_S256x256_S256x256_S256x256_S256x256_S256x1024_d1

/-- and eight of 128. -/
def headsB (z : FVec F S256x1024 .f32) : FVec F S256x1024 .f32 :=
  concatenate S256x1024 1
    [⟨S256x128, blockB (extractStridedSlice S256x128 ![0, 0] z slices_S256x1024_o0_0_S256x128)⟩,
     ⟨S256x128, blockB (extractStridedSlice S256x128 ![0, 128] z slices_S256x1024_o0_128_S256x128)⟩,
     ⟨S256x128, blockB (extractStridedSlice S256x128 ![0, 256] z slices_S256x1024_o0_256_S256x128)⟩,
     ⟨S256x128, blockB (extractStridedSlice S256x128 ![0, 384] z slices_S256x1024_o0_384_S256x128)⟩,
     ⟨S256x128, blockB (extractStridedSlice S256x128 ![0, 512] z slices_S256x1024_o0_512_S256x128)⟩,
     ⟨S256x128, blockB (extractStridedSlice S256x128 ![0, 640] z slices_S256x1024_o0_640_S256x128)⟩,
     ⟨S256x128, blockB (extractStridedSlice S256x128 ![0, 768] z slices_S256x1024_o0_768_S256x128)⟩,
     ⟨S256x128, blockB (extractStridedSlice S256x128 ![0, 896] z slices_S256x1024_o0_896_S256x128)⟩]
    concatenates_S256x128_S256x128_S256x128_S256x128_S256x128_S256x128_S256x128_S256x128_S256x1024_d1

/-- The first mixer's rows: the heads times the gain and the gate of its own, -/
def bodyA (o gr : FVec F S256x1024 .f32) (g : FVec F S1x1024 .f32) : FVec F S256x1024 .f32 :=
  mulf (mulf (headsA o) (broadcastTo S256x1024 g broadcasts_S1x1024_S256x1024)) (mulf gr (logistic gr))

/-- the second's: the heads times the gain and a constant. -/
def bodyB (o : FVec F S256x1024 .f32) (g : FVec F S1x1024 .f32) : FVec F S256x1024 .f32 :=
  mulf (mulf (headsB o) (broadcastTo S256x1024 g broadcasts_S1x1024_S256x1024)) (broadcast S256x1024 (Scalar.ofBits .f32 0x3F4CCCCD#32))

/-- The product with a square weight. -/
def bodyDot (y : FVec F S256x1024 .f32) (w : FVec F S1024x1024 .bf16) : FVec F S256x1024 .f32 :=
  matmul dot_S256x1024_S1024x1024_S256x1024_1_0_0_1_n_n none (truncf .bf16 y bitsLt_bf16_f32) w (constant S256x1024 .f32 0x00000000#32)

/-- The merge. -/
def bodyMerge (x : FVec F S256x1024 .f32) (gt : FVec F S1x1024 .f32) (u : FVec F S256x2048 .f32) (ya yb : FVec F S256x1024 .f32)
    (w : FVec F S1024x1024 .bf16) : FVec F S256x1024 .f32 :=
  addf x (mulf (broadcastTo S256x1024 gt broadcasts_S1x1024_S256x1024)
    (bodyDot (addf (mulf (logistic (extractStridedSlice S256x1024 ![0, 0] u slices_S256x2048_o0_0_S256x1024)) ya)
      (mulf (logistic (extractStridedSlice S256x1024 ![0, 1024] u slices_S256x2048_o0_1024_S256x1024)) yb)) w))

variable (x0 x1 x2 x3 : Vec F S256x1024 .f32) (x4 x5 x6 x7 x8 : Vec F S1x1x1024 .f32) (x9 x10 x11 x12 : Vec F S1x1024 .f32)
  (x13 x14 : Vec F S1024x1024 .bf16) (x15 : Vec F S1024x2048 .bf16) (x16 : Vec F S1024x1024 .bf16)

/-- The merged rows the body stores. -/
def mergedOut : FVec F S256x1024 .f32 :=
  bodyMerge (shapeCast S256x1024 x0 shapeCasts_S256x1024_S256x1024) (shapeCast S1x1024 x6 shapeCasts_S1x1x1024_S1x1024)
    (k0_pay3 x0 x9 x5 x4 x15)
    (bodyDot (bodyA (shapeCast S256x1024 x1 shapeCasts_S256x1024_S256x1024) (shapeCast S256x1024 x2 shapeCasts_S256x1024_S256x1024)
      (shapeCast S1x1024 x11 shapeCasts_S1x1024_S1x1024)) (shapeCast S1024x1024 x13 shapeCasts_S1024x1024_S1024x1024))
    (bodyDot (bodyB (shapeCast S256x1024 x3 shapeCasts_S256x1024_S256x1024)
      (shapeCast S1x1024 x12 shapeCasts_S1x1024_S1x1024)) (shapeCast S1024x1024 x14 shapeCasts_S1024x1024_S1024x1024))
    (shapeCast S1024x1024 x16 shapeCasts_S1024x1024_S1024x1024)

theorem ld0 (x : Vec F S256x1024 .f32) : View.ld x r0_0 = x := View.ld_unit_lit _ _ (by decide)
theorem ld1 (x : Vec F S1x1024 .f32) : View.ld x r0_1 = x := View.ld_unit_lit _ _ (by decide)
theorem ld2 (x : Vec F S1x1x1024 .f32) : View.ld x r0_2 = x := View.ld_unit_lit _ _ (by decide)
theorem ld3 (x : Vec F S1024x2048 .bf16) : View.ld x r0_3 = x := View.ld_unit_lit _ _ (by decide)
theorem ld4 (x : Vec F S1024x1024 .bf16) : View.ld x r0_4 = x := View.ld_unit_lit _ _ (by decide)

set_option maxHeartbeats 4000000 in
theorem out17_eq : out0_17 x0 x1 x2 x3 x4 x5 x6 x7 x8 x9 x10 x11 x12 x13 x14 x15 x16
    = mergedOut x0 x1 x2 x3 x4 x5 x6 x9 x11 x12 x13 x14 x15 x16 := by
  unfold out0_17
  rw [View.canon_cons_unit_lit _ _ _ (by decide)]
  unfold k0_pay39 k0_pay38 k0_pay37 k0_pay36 k0_pay35 k0_pay34 k0_pay33 k0_pay32 k0_pay31 k0_pay30 k0_pay29 k0_pay28 k0_pay27
    k0_pay26
  simp only [ld0, ld1, ld2, ld3, ld4]
  unfold mergedOut bodyMerge bodyDot bodyA bodyB headsA headsB blockA blockB
  rfl

set_option maxHeartbeats 4000000 in
theorem out18_eq : out0_18 x0 x1 x2 x3 x4 x5 x6 x7 x8 x9 x10 x11 x12 x13 x14 x15 x16
    = k0_pay1 (mergedOut x0 x1 x2 x3 x4 x5 x6 x9 x11 x12 x13 x14 x15 x16) (k0_pay24 x10) (k0_pay25 x8) x7 := by
  have h := out17_eq x0 x1 x2 x3 x4 x5 x6 x7 x8 x9 x10 x11 x12 x13 x14 x15 x16
  unfold out0_17 at h
  rw [View.canon_cons_unit_lit _ _ _ (by decide)] at h
  unfold out0_18
  rw [View.canon_cons_unit_lit _ _ _ (by decide), h]
  simp only [ld0, ld1, ld2, ld3, ld4]

end Cert.Post

end
-- ==== Proof.Post.KernelAt.lean ====
/- The merge kernel's expressions read at one index, over the extended reals. -/
module

public import proofs.«01_k».proof.Proof.Post.Body
public import proofs.«01_k».proof.Proof.Post.Spec

@[expose] public section

set_option maxRecDepth 16384

noncomputable section

namespace Cert.Post

open Cert.Kernel3Ideal Cert.Kernel3Ideal.Gen
open Idealize.ShloMosaic

theorem gates_at (x : FVec Ideal S256x1024 .f32) (g : FVec Ideal S1x1024 .f32) (sc sh : FVec Ideal S1x1x1024 .f32)
    (w : FVec Ideal S1024x2048 .bf16) (p : Fin 256) (n : Fin 2048) :
    k0_pay3 (F := Ideal) x g sc sh w (ix2 p n) = ∑ k : Fin 1024, modAt (fun j => x (ix2 p j)) (fun j => g (ix2 0 j))
      (fun j => sc (ix3 0 0 j)) (fun j => sh (ix3 0 0 j)) k * w (ix2 k n) := by
  unfold modAt
  pointwise [k0_pay3, k0_pay2]

theorem hidden_at (x : FVec Ideal S256x1024 .f32) (g : FVec Ideal S1x1024 .f32) (sc sh : FVec Ideal S1x1x1024 .f32)
    (p : Fin 256) (k : Fin 1024) :
    k0_pay1 (F := Ideal) x (k0_pay24 g) (k0_pay25 sc) sh (ix2 p k) = modAt (fun j => x (ix2 p j)) (fun j => g (ix2 0 j))
      (fun j => sc (ix3 0 0 j)) (fun j => sh (ix3 0 0 j)) k := by
  unfold modAt
  pointwise [k0_pay1, k0_pay24, k0_pay25]

/-- Head `h`'s block of an array of four heads, -/
def cutA (z : FVec Ideal S256x1024 .f32) (h : Fin 4) : FVec Ideal S256x256 .f32 := fun y =>
  have hy : (y 1).val < 256 := (y 1).isLt
  z (ix2 (y 0) (⟨256 * h.val + (y 1).val, by omega⟩ : Fin 1024))

/-- and of eight. -/
def cutB (z : FVec Ideal S256x1024 .f32) (h : Fin 8) : FVec Ideal S256x128 .f32 := fun y =>
  have hy : (y 1).val < 128 := (y 1).isLt
  z (ix2 (y 0) (⟨128 * h.val + (y 1).val, by omega⟩ : Fin 1024))

theorem concatA (f : Fin 4 → FVec Ideal S256x256 .f32) (p : Fin 256) (h : Fin 4) (c : Fin 256) :
    concatenate S256x1024 1 [⟨S256x256, f 0⟩, ⟨S256x256, f 1⟩, ⟨S256x256, f 2⟩, ⟨S256x256, f 3⟩]
      concatenates_S256x256_S256x256_S256x256_S256x256_S256x1024_d1 (ix2 p (colA h c)) = f h (ix2 p c) := by
  have key : ∀ (h' : Fin 4) (n : ℕ) (hn : n < 256), h'.val = h.val → n = c.val → f h' (ix2 p (⟨n, hn⟩ : Fin 256)) = f h (ix2 p c) := by
    rintro h' n hn e rfl
    rw [Fin.ext e]
  have hc := c.isLt
  have hh := h.isLt
  pointwise [colA]
  repeat' split
  all_goals exact key _ _ _ (by first | omega | (simp; omega)) (by omega)

theorem concatB (f : Fin 8 → FVec Ideal S256x128 .f32) (p : Fin 256) (h : Fin 8) (c : Fin 128) :
    concatenate S256x1024 1 [⟨S256x128, f 0⟩, ⟨S256x128, f 1⟩, ⟨S256x128, f 2⟩, ⟨S256x128, f 3⟩, ⟨S256x128, f 4⟩, ⟨S256x128, f 5⟩,
      ⟨S256x128, f 6⟩, ⟨S256x128, f 7⟩]
      concatenates_S256x128_S256x128_S256x128_S256x128_S256x128_S256x128_S256x128_S256x128_S256x1024_d1
      (ix2 p (colB h c)) = f h (ix2 p c) := by
  have key : ∀ (h' : Fin 8) (n : ℕ) (hn : n < 128), h'.val = h.val → n = c.val → f h' (ix2 p (⟨n, hn⟩ : Fin 128)) = f h (ix2 p c) := by
    rintro h' n hn e rfl
    rw [Fin.ext e]
  have hc := c.isLt
  have hh := h.isLt
  pointwise [colB]
  repeat' split
  all_goals exact key _ _ _ (by first | omega | (simp; omega)) (by omega)

theorem slice_cutA (z : FVec Ideal S256x1024 .f32) :
    extractStridedSlice S256x256 ![0, 0] z slices_S256x1024_o0_0_S256x256 = cutA z 0
    ∧ extractStridedSlice S256x256 ![0, 256] z slices_S256x1024_o0_256_S256x256 = cutA z 1
    ∧ extractStridedSlice S256x256 ![0, 512] z slices_S256x1024_o0_512_S256x256 = cutA z 2
    ∧ extractStridedSlice S256x256 ![0, 768] z slices_S256x1024_o0_768_S256x256 = cutA z 3 := by
  refine ⟨?_, ?_, ?_, ?_⟩ <;> funext y <;>
    obtain ⟨p, c, rfl⟩ : ∃ (p : Fin 256) (c : Fin 256), y = ix2 p c := ⟨y 0, y 1, eq_ix2 y⟩ <;>
    pointwise [cutA]

theorem slice_cutB (z : FVec Ideal S256x1024 .f32) :
    extractStridedSlice S256x128 ![0, 0] z slices_S256x1024_o0_0_S256x128 = cutB z 0
    ∧ extractStridedSlice S256x128 ![0, 128] z slices_S256x1024_o0_128_S256x128 = cutB z 1
    ∧ extractStridedSlice S256x128 ![0, 256] z slices_S256x1024_o0_256_S256x128 = cutB z 2
    ∧ extractStridedSlice S256x128 ![0, 384] z slices_S256x1024_o0_384_S256x128 = cutB z 3
    ∧ extractStridedSlice S256x128 ![0, 512] z slices_S256x1024_o0_512_S256x128 = cutB z 4
    ∧ extractStridedSlice S256x128 ![0, 640] z slices_S256x1024_o0_640_S256x128 = cutB z 5
    ∧ extractStridedSlice S256x128 ![0, 768] z slices_S256x1024_o0_768_S256x128 = cutB z 6
    ∧ extractStridedSlice S256x128 ![0, 896] z slices_S256x1024_o0_896_S256x128 = cutB z 7 := by
  refine ⟨?_, ?_, ?_, ?_, ?_, ?_, ?_, ?_⟩ <;> funext y <;>
    obtain ⟨p, c, rfl⟩ : ∃ (p : Fin 256) (c : Fin 128), y = ix2 p c := ⟨y 0, y 1, eq_ix2 y⟩ <;>
    pointwise [cutB]

/-- Every head of the stored array is its block's head. -/
theorem headsA_at (z : FVec Ideal S256x1024 .f32) (p : Fin 256) (h : Fin 4) (e : Fin 256) :
    headsA z (ix2 p (colA h e)) = blockA (cutA z h) (ix2 p e) := by
  obtain ⟨h0, h1, h2, h3⟩ := slice_cutA z
  unfold headsA
  rw [h0, h1, h2, h3]
  exact concatA (fun i => blockA (cutA z i)) p h e

theorem headsB_at (z : FVec Ideal S256x1024 .f32) (p : Fin 256) (h : Fin 8) (e : Fin 128) :
    headsB z (ix2 p (colB h e)) = blockB (cutB z h) (ix2 p e) := by
  obtain ⟨h0, h1, h2, h3, h4, h5, h6, h7⟩ := slice_cutB z
  unfold headsB
  rw [h0, h1, h2, h3, h4, h5, h6, h7]
  exact concatB (fun i => blockB (cutB z i)) p h e

theorem blockA_at (u : FVec Ideal S256x256 .f32) (p e : Fin 256) :
    blockA u (ix2 p e) = u (ix2 p e) * Ideal.rsqrt (Ideal.div (∑ j : Fin 256, u (ix2 p j) * u (ix2 p j))
      (Ideal.ofBits .f32 0x43800000#32) + Ideal.ofBits .f32 0x358637BD#32) := by
  pointwise [blockA]

theorem blockB_at (u : FVec Ideal S256x128 .f32) (p : Fin 256) (e : Fin 128) :
    blockB u (ix2 p e) = u (ix2 p e) * Ideal.rsqrt (Ideal.div (∑ j : Fin 128, u (ix2 p j) * u (ix2 p j))
      (Ideal.ofBits .f32 0x43000000#32) + Ideal.ofBits .f32 0x358637BD#32) := by
  pointwise [blockB]

theorem bodyA_at (o gr : FVec Ideal S256x1024 .f32) (g : FVec Ideal S1x1024 .f32) (p : Fin 256) (h : Fin 4) (e : Fin 256) :
    bodyA o gr g (ix2 p (colA h e)) = headAt 0x43800000#32 (fun j => o (ix2 p (colA h j))) (fun j => g (ix2 0 (colA h j))) e
      * (gr (ix2 p (colA h e)) * Ideal.logistic (gr (ix2 p (colA h e)))) := by
  have e1 : headAt 0x43800000#32 (fun j => o (ix2 p (colA h j))) (fun j => g (ix2 0 (colA h j))) e
      = headsA o (ix2 p (colA h e)) * g (ix2 0 (colA h e)) := by
    rw [headsA_at, blockA_at]
    rfl
  rw [e1]
  generalize colA h e = k
  pointwise [bodyA]

theorem bodyB_at (o : FVec Ideal S256x1024 .f32) (g : FVec Ideal S1x1024 .f32) (p : Fin 256) (h : Fin 8) (e : Fin 128) :
    bodyB o g (ix2 p (colB h e)) = headAt 0x43000000#32 (fun j => o (ix2 p (colB h j))) (fun j => g (ix2 0 (colB h j))) e
      * Ideal.ofBits .f32 0x3F4CCCCD#32 := by
  have e1 : headAt 0x43000000#32 (fun j => o (ix2 p (colB h j))) (fun j => g (ix2 0 (colB h j))) e
      = headsB o (ix2 p (colB h e)) * g (ix2 0 (colB h e)) := by
    rw [headsB_at, blockB_at]
    rfl
  rw [e1]
  generalize colB h e = k
  pointwise [bodyB]

theorem bodyDot_at (y : FVec Ideal S256x1024 .f32) (w : FVec Ideal S1024x1024 .bf16) (p : Fin 256) (n : Fin 1024) :
    bodyDot y w (ix2 p n) = ∑ k : Fin 1024, y (ix2 p k) * w (ix2 k n) := by
  pointwise [bodyDot]

theorem bodyMerge_at (x : FVec Ideal S256x1024 .f32) (gt : FVec Ideal S1x1024 .f32) (u : FVec Ideal S256x2048 .f32)
    (ya yb : FVec Ideal S256x1024 .f32) (w : FVec Ideal S1024x1024 .bf16) (p : Fin 256) (n : Fin 1024) :
    bodyMerge x gt u ya yb w (ix2 p n) = mergeAt (fun j => x (ix2 p j)) (fun j => gt (ix2 0 j)) (fun j => u (ix2 p j))
      (fun j => ya (ix2 p j)) (fun j => yb (ix2 p j)) (fun k n => w (ix2 k n)) n := by
  unfold mergeAt
  pointwise [bodyMerge, bodyDot]

end Cert.Post

end
-- ==== Proof.Post.Host.lean ====
/- The host code before the merge kernel, as functions of the arguments. -/
module

public import proofs.«01_k».proof.Proof.Gen.Kernel3Ideal.Value
public import Idealize.ShloMosaic.Lib.Claim

@[expose] public section

set_option maxRecDepth 16384

noncomputable section

namespace Cert.Post

open Cert.Kernel3Ideal Cert.Kernel3Ideal.Gen
open Idealize.ShloMosaic Idealize.ShloMosaic.TcCoe
open Idealize.SL.Sem

variable {F : FTy → Type} [FloatOps F]

/-- The first mixer's gain, once for each of its heads, -/
def tileA (g : FVec F S256 .f32) : FVec F S1x1024 .f32 :=
  broadcastInDim S1x1024 ![1] bcast_S1024_S1x1024_1 (shapeCast S1024 (broadcastInDim S4x256 ![0, 1] bcast_S1x256_S4x256_0_1
    (shapeCast S1x256 g shapeCasts_S256_S1x256)) shapeCasts_S4x256_S1024)

/-- and the second's. -/
def tileB (g : FVec F S128 .f32) : FVec F S1x1024 .f32 :=
  broadcastInDim S1x1024 ![1] bcast_S1024_S1x1024_1 (shapeCast S1024 (broadcastInDim S8x128 ![0, 1] bcast_S1x128_S8x128_0_1
    (shapeCast S1x128 g shapeCasts_S128_S1x128)) shapeCasts_S8x128_S1024)

variable (m : (ℓ : Loc nD τ sig) → Buf (Elt F) ℓ) (c : Dev nD)

theorem entry_x : V m c main_v0
    = shapeCast S16384x1024 (m ((c.tc : Thread nD τ).loc main_arg0)) shapeCasts_S2x8192x1024_S16384x1024 := by
  entry_read; rfl
theorem entry_oa : V m c main_v1
    = shapeCast S16384x1024 (m ((c.tc : Thread nD τ).loc main_arg1)) shapeCasts_S2x8192x4x256_S16384x1024 := by
  entry_read; rfl
theorem entry_gr : V m c main_v2
    = shapeCast S16384x1024 (m ((c.tc : Thread nD τ).loc main_arg2)) shapeCasts_S2x8192x1024_S16384x1024 := by
  entry_read; rfl
theorem entry_ob : V m c main_v3
    = shapeCast S16384x1024 (m ((c.tc : Thread nD τ).loc main_arg3)) shapeCasts_S2x8192x8x128_S16384x1024 := by
  entry_read; rfl
theorem entry_sh1 : V m c main_v4
    = broadcastInDim S2x1x1024 ![0, 2] bcast_S2x1024_S2x1x1024_0_2 (m ((c.tc : Thread nD τ).loc main_arg4)) := by
  entry_read; rfl
theorem entry_sc1 : V m c main_v5
    = broadcastInDim S2x1x1024 ![0, 2] bcast_S2x1024_S2x1x1024_0_2 (m ((c.tc : Thread nD τ).loc main_arg5)) := by
  entry_read; rfl
theorem entry_gt1 : V m c main_v6
    = broadcastInDim S2x1x1024 ![0, 2] bcast_S2x1024_S2x1x1024_0_2 (m ((c.tc : Thread nD τ).loc main_arg6)) := by
  entry_read; rfl
theorem entry_sh2 : V m c main_v7
    = broadcastInDim S2x1x1024 ![0, 2] bcast_S2x1024_S2x1x1024_0_2 (m ((c.tc : Thread nD τ).loc main_arg7)) := by
  entry_read; rfl
theorem entry_sc2 : V m c main_v8
    = broadcastInDim S2x1x1024 ![0, 2] bcast_S2x1024_S2x1x1024_0_2 (m ((c.tc : Thread nD τ).loc main_arg8)) := by
  entry_read; rfl
theorem entry_g1 : V m c main_v9
    = broadcastInDim S1x1024 ![1] bcast_S1024_S1x1024_1 (m ((c.tc : Thread nD τ).loc main_arg9)) := by
  entry_read; rfl
theorem entry_g2 : V m c main_v10
    = broadcastInDim S1x1024 ![1] bcast_S1024_S1x1024_1 (m ((c.tc : Thread nD τ).loc main_arg10)) := by
  entry_read; rfl
theorem entry_ga : V m c main_v14
    = tileA (m ((c.tc : Thread nD τ).loc main_arg11)) := by
  entry_read; rfl
theorem entry_gb : V m c main_v18
    = tileB (m ((c.tc : Thread nD τ).loc main_arg12)) := by
  entry_read; rfl
theorem entry_wa : V m c main_v19
    = truncf .bf16 (m ((c.tc : Thread nD τ).loc main_arg14)) bitsLt_bf16_f32 := by
  entry_read; rfl
theorem entry_wb : V m c main_v20
    = truncf .bf16 (m ((c.tc : Thread nD τ).loc main_arg15)) bitsLt_bf16_f32 := by
  entry_read; rfl
theorem entry_wg : V m c main_v22
    = truncf .bf16 (extractStridedSlice S1024x2048 ![0, 6160] (m ((c.tc : Thread nD τ).loc main_arg13))
      slices_S1024x8208_S1024x2048_0_6160) bitsLt_bf16_f32 := by
  entry_read; rfl
theorem entry_wo : V m c main_v23
    = truncf .bf16 (m ((c.tc : Thread nD τ).loc main_arg16)) bitsLt_bf16_f32 := by
  entry_read; rfl

end Cert.Post

end
-- ==== Proof.Post.HostAt.lean ====
/- The arrays that the host code hands to the merge kernel, read at one index over the extended reals. -/
module

public import proofs.«01_k».proof.Proof.Post.Host
public import proofs.«01_k».proof.Proof.Post.Spec

@[expose] public section

set_option maxRecDepth 16384

noncomputable section

namespace Cert.Post

open Cert.Kernel3Ideal Cert.Kernel3Ideal.Gen
open Idealize.ShloMosaic

theorem rows_arg (x : FVec Ideal S2x8192x1024 .f32) (b : Fin 2) (i : Fin 8192) (k : Fin 1024) :
    shapeCast S16384x1024 x shapeCasts_S2x8192x1024_S16384x1024 (ix2 (rowOf b i) k) = x (ix3 b i k) := by
  pointwise [rowOf]

theorem headsA_arg (o : FVec Ideal S2x8192x4x256 .f32) (b : Fin 2) (i : Fin 8192) (h : Fin 4) (e : Fin 256) :
    shapeCast S16384x1024 o shapeCasts_S2x8192x4x256_S16384x1024 (ix2 (rowOf b i) (colA h e)) = o (ix4 b i h e) := by
  pointwise [rowOf, colA]

theorem headsB_arg (o : FVec Ideal S2x8192x8x128 .f32) (b : Fin 2) (i : Fin 8192) (h : Fin 8) (e : Fin 128) :
    shapeCast S16384x1024 o shapeCasts_S2x8192x8x128_S16384x1024 (ix2 (rowOf b i) (colB h e)) = o (ix4 b i h e) := by
  pointwise [rowOf, colB]

theorem batch_arg (s : FVec Ideal S2x1024 .f32) (b : Fin 2) (k : Fin 1024) :
    broadcastInDim S2x1x1024 ![0, 2] bcast_S2x1024_S2x1x1024_0_2 s (ix3 b 0 k) = s (ix2 b k) := by
  pointwise []

theorem gain_arg (g : FVec Ideal S1024 .f32) (k : Fin 1024) :
    broadcastInDim S1x1024 ![1] bcast_S1024_S1x1024_1 g (ix2 0 k) = g (ix1 k) := by
  pointwise []

theorem tileA_arg (g : FVec Ideal S256 .f32) (h : Fin 4) (e : Fin 256) : tileA g (ix2 0 (colA h e)) = g (ix1 e) := by
  pointwise [tileA, colA]

theorem tileB_arg (g : FVec Ideal S128 .f32) (h : Fin 8) (e : Fin 128) : tileB g (ix2 0 (colB h e)) = g (ix1 e) := by
  pointwise [tileB, colB]

theorem w_arg (w : FVec Ideal S1024x1024 .f32) (k n : Fin 1024) :
    truncf (F := Ideal) .bf16 w bitsLt_bf16_f32 (ix2 k n) = w (ix2 k n) := by
  pointwise []

theorem gates_arg (w : FVec Ideal S1024x8208 .f32) (k : Fin 1024) (n : Fin 2048) :
    truncf (F := Ideal) .bf16 (extractStridedSlice S1024x2048 ![0, 6160] w slices_S1024x8208_S1024x2048_0_6160) bitsLt_bf16_f32
      (ix2 k n) = w (ix2 k (⟨6160 + n.val, by omega⟩ : Fin 8208)) := by
  pointwise []

end Cert.Post

end
-- ==== Proof.Post.Blocks.lean ====
/- The blocks of the merge kernel's windows at a grid point: point `t` is batch `t / 32` and the 256 rows from `256 (t % 32)`. -/
module

public import proofs.«01_k».proof.Proof.Post.Host
public import proofs.«01_k».proof.Proof.Post.Spec
public import Idealize.ShloMosaic.Lib.Pipeline.ValueKit

@[expose] public section

set_option maxRecDepth 16384

noncomputable section

namespace Cert.Post

open Cert.Kernel3Ideal Cert.Kernel3Ideal.Gen
open Idealize.ShloMosaic Idealize.ShloMosaic.TcCoe Idealize.ShloMosaic.Tactic
open Idealize.SL.Sem

variable {F : FTy → Type} [FloatOps F]

variable (m : (ℓ : Loc nD τ sig) → Buf (Elt F) ℓ) (c : Dev nD) (t : Fin cfg0.N)

/-- The block indices of every window that the body reads, decided over the whole grid, -/
theorem idx_in : ∀ t : Fin cfg0.N, win0_0.index t = ![t.val, 0] ∧ win0_1.index t = ![t.val, 0] ∧ win0_2.index t = ![t.val, 0]
    ∧ win0_3.index t = ![t.val, 0] ∧ win0_4.index t = ![t.val / 32, 0, 0] ∧ win0_5.index t = ![t.val / 32, 0, 0]
    ∧ win0_6.index t = ![t.val / 32, 0, 0] ∧ win0_7.index t = ![t.val / 32, 0, 0] ∧ win0_8.index t = ![t.val / 32, 0, 0]
    ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![0, 0] ∧ win0_16.index t = ![0, 0] :=
  (by decide +kernel : ∀ t : Fin grid0.N, _)

/-- and of both that it writes. -/
theorem idx_out : ∀ t : Fin cfg0.N, win0_17.index t = ![t.val, 0] ∧ win0_18.index t = ![t.val, 0] :=
  (by decide +kernel : ∀ t : Fin grid0.N, _)

theorem t_lt (t : Fin cfg0.N) : t.val < 64 := lt_of_lt_of_eq t.isLt (show cfg0.N = 64 from N_0)

/-- The batch of a point, and the position of its row `p`. -/
def bOf (t : Fin cfg0.N) : Fin 2 := ⟨t.val / 32, by have := t_lt t; omega⟩
def iOf (t : Fin cfg0.N) (p : Fin 256) : Fin 8192 := ⟨256 * (t.val % 32) + p.val, by omega⟩

theorem row_eq (p : Fin 256) : (rowOf (bOf t) (iOf t p)).val = t.val * 256 + p.val := by
  simp only [rowOf, bOf, iOf]
  omega

theorem blk0 (p : Fin 256) (k : Fin 1024) : iblk m c 0 t (ix2 p k) = V m c main_v0 (ix2 (rowOf (bOf t) (iOf t p)) k) := by
  have h := row_eq t p
  blk_ext [iblk, idx_in t]
theorem blk1 (p : Fin 256) (k : Fin 1024) : iblk m c 1 t (ix2 p k) = V m c main_v1 (ix2 (rowOf (bOf t) (iOf t p)) k) := by
  have h := row_eq t p
  blk_ext [iblk, idx_in t]
theorem blk2 (p : Fin 256) (k : Fin 1024) : iblk m c 2 t (ix2 p k) = V m c main_v2 (ix2 (rowOf (bOf t) (iOf t p)) k) := by
  have h := row_eq t p
  blk_ext [iblk, idx_in t]
theorem blk3 (p : Fin 256) (k : Fin 1024) : iblk m c 3 t (ix2 p k) = V m c main_v3 (ix2 (rowOf (bOf t) (iOf t p)) k) := by
  have h := row_eq t p
  blk_ext [iblk, idx_in t]
theorem blk4 (k : Fin 1024) : iblk m c 4 t (ix3 0 0 k) = V m c main_v4 (ix3 (bOf t) 0 k) := by
  unfold bOf
  blk_ext [iblk, idx_in t]
theorem blk5 (k : Fin 1024) : iblk m c 5 t (ix3 0 0 k) = V m c main_v5 (ix3 (bOf t) 0 k) := by
  unfold bOf
  blk_ext [iblk, idx_in t]
theorem blk6 (k : Fin 1024) : iblk m c 6 t (ix3 0 0 k) = V m c main_v6 (ix3 (bOf t) 0 k) := by
  unfold bOf
  blk_ext [iblk, idx_in t]
theorem blk7 (k : Fin 1024) : iblk m c 7 t (ix3 0 0 k) = V m c main_v7 (ix3 (bOf t) 0 k) := by
  unfold bOf
  blk_ext [iblk, idx_in t]
theorem blk8 (k : Fin 1024) : iblk m c 8 t (ix3 0 0 k) = V m c main_v8 (ix3 (bOf t) 0 k) := by
  unfold bOf
  blk_ext [iblk, idx_in t]
theorem blk9 (k : Fin 1024) : iblk m c 9 t (ix2 0 k) = V m c main_v9 (ix2 0 k) := by
  blk_ext [iblk, idx_in t]
theorem blk10 (k : Fin 1024) : iblk m c 10 t (ix2 0 k) = V m c main_v10 (ix2 0 k) := by
  blk_ext [iblk, idx_in t]
theorem blk11 (k : Fin 1024) : iblk m c 11 t (ix2 0 k) = V m c main_v14 (ix2 0 k) := by
  blk_ext [iblk, idx_in t]
theorem blk12 (k : Fin 1024) : iblk m c 12 t (ix2 0 k) = V m c main_v18 (ix2 0 k) := by
  blk_ext [iblk, idx_in t]
theorem blk13 (k : Fin 1024) (n : Fin 1024) : iblk m c 13 t (ix2 k n) = V m c main_v19 (ix2 k n) := by
  blk_ext [iblk, idx_in t]
theorem blk14 (k : Fin 1024) (n : Fin 1024) : iblk m c 14 t (ix2 k n) = V m c main_v20 (ix2 k n) := by
  blk_ext [iblk, idx_in t]
theorem blk15 (k : Fin 1024) (n : Fin 2048) : iblk m c 15 t (ix2 k n) = V m c main_v22 (ix2 k n) := by
  blk_ext [iblk, idx_in t]
theorem blk16 (k : Fin 1024) (n : Fin 1024) : iblk m c 16 t (ix2 k n) = V m c main_v23 (ix2 k n) := by
  blk_ext [iblk, idx_in t]

end Cert.Post

end
-- ==== Proof.Post.Value.lean ====
/- The merge kernel's two arrays are the reference's, whatever the arguments. -/
module

public import proofs.«01_k».proof.Proof.Post.RefAt
public import proofs.«01_k».proof.Proof.Post.KernelAt
public import proofs.«01_k».proof.Proof.Post.HostAt
public import proofs.«01_k».proof.Proof.Post.Blocks

@[expose] public section

set_option maxRecDepth 16384

noncomputable section

namespace Cert.Post

open Cert.Kernel3Ideal Cert.Kernel3Ideal.Gen
open Idealize.ShloMosaic Idealize.ShloMosaic.TcCoe
open Idealize.SL.Sem

/-- A function of rows takes equal values at equal rows. -/
theorem modAt_congr {x x' g g' sc sc' sh sh' : Fin 1024 → EReal} (h0 : ∀ j, x j = x' j) (h1 : ∀ j, g j = g' j)
    (h2 : ∀ j, sc j = sc' j) (h3 : ∀ j, sh j = sh' j) (k : Fin 1024) : modAt x g sc sh k = modAt x' g' sc' sh' k := by
  rw [funext h0, funext h1, funext h2, funext h3]

theorem headAt_congr {n : ℕ} {w : BitVec 32} {z z' g g' : Fin n → EReal} (h0 : ∀ j, z j = z' j) (h1 : ∀ j, g j = g' j) (e : Fin n) :
    headAt w z g e = headAt w z' g' e := by
  rw [funext h0, funext h1]

theorem mergeAt_congr {x x' gt gt' ya ya' yb yb' : Fin 1024 → EReal} {u u' : Fin 2048 → EReal} {w w' : Fin 1024 → Fin 1024 → EReal}
    (h0 : ∀ j, x j = x' j) (h1 : ∀ j, gt j = gt' j) (h2 : ∀ j, u j = u' j) (h3 : ∀ j, ya j = ya' j) (h4 : ∀ j, yb j = yb' j)
    (h5 : ∀ k j, w k j = w' k j) (n : Fin 1024) : mergeAt x gt u ya yb w n = mergeAt x' gt' u' ya' yb' w' n := by
  rw [funext h0, funext h1, funext h2, funext h3, funext h4, (funext fun k => funext (h5 k) : w = w')]

theorem cast_rows (x : FVec Ideal S256x1024 .f32) (p : Fin 256) (k : Fin 1024) :
    shapeCast S256x1024 x shapeCasts_S256x1024_S256x1024 (ix2 p k) = x (ix2 p k) := by
  pointwise []
theorem cast_row (g : FVec Ideal S1x1024 .f32) (k : Fin 1024) :
    shapeCast S1x1024 g shapeCasts_S1x1024_S1x1024 (ix2 0 k) = g (ix2 0 k) := by
  pointwise []
theorem cast_batch (g : FVec Ideal S1x1x1024 .f32) (k : Fin 1024) :
    shapeCast S1x1024 g shapeCasts_S1x1x1024_S1x1024 (ix2 0 k) = g (ix3 0 0 k) := by
  pointwise []
theorem cast_w (w : FVec Ideal S1024x1024 .bf16) (k n : Fin 1024) :
    shapeCast S1024x1024 w shapeCasts_S1024x1024_S1024x1024 (ix2 k n) = w (ix2 k n) := by
  pointwise []

variable (m : (ℓ : Loc nD τ sig) → Buf (Elt Ideal) ℓ) (c : Dev nD)

/-- The reference's gates, of the kernel's arguments, -/
def gatesV : FVec Ideal Cert.Reference3Ideal.S2x8192x2048 .f32 :=
  Ref.gates (Ref.hidden (m ((c.tc : Thread nD τ).loc main_arg0)) (m ((c.tc : Thread nD τ).loc main_arg4))
    (m ((c.tc : Thread nD τ).loc main_arg5)) (m ((c.tc : Thread nD τ).loc main_arg9))) (m ((c.tc : Thread nD τ).loc main_arg13))

/-- its first mixer's rows, -/
def rowsAV : FVec Ideal Cert.Reference3Ideal.S2x8192x1024 .f32 :=
  Ref.rowsA (m ((c.tc : Thread nD τ).loc main_arg1)) (m ((c.tc : Thread nD τ).loc main_arg2)) (m ((c.tc : Thread nD τ).loc main_arg11))

/-- its second's, -/
def rowsBV : FVec Ideal Cert.Reference3Ideal.S2x8192x1024 .f32 :=
  Ref.rowsB (m ((c.tc : Thread nD τ).loc main_arg3)) (m ((c.tc : Thread nD τ).loc main_arg12))

/-- the merged rows, -/
def mergedV : FVec Ideal Cert.Reference3Ideal.S2x8192x1024 .f32 :=
  Ref.merge (m ((c.tc : Thread nD τ).loc main_arg0)) (m ((c.tc : Thread nD τ).loc main_arg6)) (gatesV m c)
    (Ref.dot (rowsAV m c) (m ((c.tc : Thread nD τ).loc main_arg14))) (Ref.dot (rowsBV m c) (m ((c.tc : Thread nD τ).loc main_arg15)))
    (m ((c.tc : Thread nD τ).loc main_arg16))

/-- and the merged rows modulated again. -/
def hiddenV : FVec Ideal Cert.Reference3Ideal.S2x8192x1024 .f32 :=
  Ref.hidden (mergedV m c) (m ((c.tc : Thread nD τ).loc main_arg7)) (m ((c.tc : Thread nD τ).loc main_arg8))
    (m ((c.tc : Thread nD τ).loc main_arg10))

variable (t : Fin cfg0.N)

theorem x_at (p : Fin 256) (k : Fin 1024) :
    iblk m c 0 t (ix2 p k) = m ((c.tc : Thread nD τ).loc main_arg0) (ix3 (bOf t) (iOf t p) k) := by
  rw [blk0, entry_x]; exact rows_arg _ _ _ _
theorem oa_at (p : Fin 256) (h : Fin 4) (e : Fin 256) :
    iblk m c 1 t (ix2 p (colA h e)) = m ((c.tc : Thread nD τ).loc main_arg1) (ix4 (bOf t) (iOf t p) h e) := by
  rw [blk1, entry_oa]; exact headsA_arg _ _ _ _ _
theorem gr_at (p : Fin 256) (k : Fin 1024) :
    iblk m c 2 t (ix2 p k) = m ((c.tc : Thread nD τ).loc main_arg2) (ix3 (bOf t) (iOf t p) k) := by
  rw [blk2, entry_gr]; exact rows_arg _ _ _ _
theorem ob_at (p : Fin 256) (h : Fin 8) (e : Fin 128) :
    iblk m c 3 t (ix2 p (colB h e)) = m ((c.tc : Thread nD τ).loc main_arg3) (ix4 (bOf t) (iOf t p) h e) := by
  rw [blk3, entry_ob]; exact headsB_arg _ _ _ _ _
theorem sh1_at (k : Fin 1024) : iblk m c 4 t (ix3 0 0 k) = m ((c.tc : Thread nD τ).loc main_arg4) (ix2 (bOf t) k) := by
  rw [blk4, entry_sh1]; exact batch_arg _ _ _
theorem sc1_at (k : Fin 1024) : iblk m c 5 t (ix3 0 0 k) = m ((c.tc : Thread nD τ).loc main_arg5) (ix2 (bOf t) k) := by
  rw [blk5, entry_sc1]; exact batch_arg _ _ _
theorem gt1_at (k : Fin 1024) : iblk m c 6 t (ix3 0 0 k) = m ((c.tc : Thread nD τ).loc main_arg6) (ix2 (bOf t) k) := by
  rw [blk6, entry_gt1]; exact batch_arg _ _ _
theorem sh2_at (k : Fin 1024) : iblk m c 7 t (ix3 0 0 k) = m ((c.tc : Thread nD τ).loc main_arg7) (ix2 (bOf t) k) := by
  rw [blk7, entry_sh2]; exact batch_arg _ _ _
theorem sc2_at (k : Fin 1024) : iblk m c 8 t (ix3 0 0 k) = m ((c.tc : Thread nD τ).loc main_arg8) (ix2 (bOf t) k) := by
  rw [blk8, entry_sc2]; exact batch_arg _ _ _
theorem g1_at (k : Fin 1024) : iblk m c 9 t (ix2 0 k) = m ((c.tc : Thread nD τ).loc main_arg9) (ix1 k) := by
  rw [blk9, entry_g1]; exact gain_arg _ _
theorem g2_at (k : Fin 1024) : iblk m c 10 t (ix2 0 k) = m ((c.tc : Thread nD τ).loc main_arg10) (ix1 k) := by
  rw [blk10, entry_g2]; exact gain_arg _ _
theorem ga_at (h : Fin 4) (e : Fin 256) : iblk m c 11 t (ix2 0 (colA h e)) = m ((c.tc : Thread nD τ).loc main_arg11) (ix1 e) := by
  rw [blk11, entry_ga]; exact tileA_arg _ _ _
theorem gb_at (h : Fin 8) (e : Fin 128) : iblk m c 12 t (ix2 0 (colB h e)) = m ((c.tc : Thread nD τ).loc main_arg12) (ix1 e) := by
  rw [blk12, entry_gb]; exact tileB_arg _ _ _
theorem wa_at (k n : Fin 1024) : iblk m c 13 t (ix2 k n) = m ((c.tc : Thread nD τ).loc main_arg14) (ix2 k n) := by
  rw [blk13, entry_wa]; exact w_arg _ _ _
theorem wb_at (k n : Fin 1024) : iblk m c 14 t (ix2 k n) = m ((c.tc : Thread nD τ).loc main_arg15) (ix2 k n) := by
  rw [blk14, entry_wb]; exact w_arg _ _ _
theorem wg_at (k : Fin 1024) (n : Fin 2048) :
    iblk m c 15 t (ix2 k n) = m ((c.tc : Thread nD τ).loc main_arg13) (ix2 k (⟨6160 + n.val, by omega⟩ : Fin 8208)) := by
  rw [blk15, entry_wg]; exact gates_arg _ _ _
theorem wo_at (k n : Fin 1024) : iblk m c 16 t (ix2 k n) = m ((c.tc : Thread nD τ).loc main_arg16) (ix2 k n) := by
  rw [blk16, entry_wo]; exact w_arg _ _ _

/-- The gates the body forms at point `t` are the reference's, in the rows of the point, -/
theorem bodyGates_at (p : Fin 256) (n : Fin 2048) :
    k0_pay3 (F := Ideal) (iblk m c 0 t) (iblk m c 9 t) (iblk m c 5 t) (iblk m c 4 t) (iblk m c 15 t) (ix2 p n)
      = gatesV m c (ix3 (bOf t) (iOf t p) n) := by
  refine (gates_at _ _ _ _ _ p n).trans ?_
  unfold gatesV
  rw [Ref.gates_at]
  refine Finset.sum_congr rfl fun k _ => ?_
  rw [Ref.hidden_at]
  exact congrArg₂ (· * ·) (modAt_congr (x_at m c t p) (g1_at m c t) (sc1_at m c t) (sh1_at m c t) k) (wg_at m c t k n)

/-- so are the first mixer's rows -/
theorem bodyRowsA_at (p : Fin 256) (k : Fin 1024) :
    bodyA (F := Ideal) (shapeCast S256x1024 (iblk m c 1 t) shapeCasts_S256x1024_S256x1024)
      (shapeCast S256x1024 (iblk m c 2 t) shapeCasts_S256x1024_S256x1024)
      (shapeCast S1x1024 (iblk m c 11 t) shapeCasts_S1x1024_S1x1024) (ix2 p k) = rowsAV m c (ix3 (bOf t) (iOf t p) k) := by
  obtain ⟨h, e, rfl⟩ := colA_cases k
  have eg := (cast_rows (iblk m c 2 t) p (colA h e)).trans (gr_at m c t p (colA h e))
  refine (bodyA_at _ _ _ p h e).trans ?_
  unfold rowsAV
  rw [Ref.rowsA_at, eg]
  exact congrArg (· * _) (headAt_congr (fun j => (cast_rows _ p _).trans (oa_at m c t p h j))
    (fun j => (cast_row _ _).trans (ga_at m c t h j)) e)

/-- and the second's, -/
theorem bodyRowsB_at (p : Fin 256) (k : Fin 1024) :
    bodyB (F := Ideal) (shapeCast S256x1024 (iblk m c 3 t) shapeCasts_S256x1024_S256x1024)
      (shapeCast S1x1024 (iblk m c 12 t) shapeCasts_S1x1024_S1x1024) (ix2 p k) = rowsBV m c (ix3 (bOf t) (iOf t p) k) := by
  obtain ⟨h, e, rfl⟩ := colB_cases k
  refine (bodyB_at _ _ p h e).trans ?_
  unfold rowsBV
  rw [Ref.rowsB_at]
  exact congrArg (· * _) (headAt_congr (fun j => (cast_rows _ p _).trans (ob_at m c t p h j))
    (fun j => (cast_row _ _).trans (gb_at m c t h j)) e)

/-- the merged rows -/
theorem bodyMerged_at (p : Fin 256) (n : Fin 1024) :
    mergedOut (F := Ideal) (iblk m c 0 t) (iblk m c 1 t) (iblk m c 2 t) (iblk m c 3 t) (iblk m c 4 t) (iblk m c 5 t) (iblk m c 6 t)
      (iblk m c 9 t) (iblk m c 11 t) (iblk m c 12 t) (iblk m c 13 t) (iblk m c 14 t) (iblk m c 15 t) (iblk m c 16 t) (ix2 p n)
      = mergedV m c (ix3 (bOf t) (iOf t p) n) := by
  unfold mergedOut mergedV
  refine (bodyMerge_at _ _ _ _ _ _ p n).trans ?_
  rw [Ref.merge_at]
  refine mergeAt_congr (fun j => (cast_rows _ p j).trans (x_at m c t p j)) (fun j => (cast_batch _ j).trans (gt1_at m c t j))
    (bodyGates_at m c t p) (fun j => ?_) (fun j => ?_) (fun k j => (cast_w _ k j).trans (wo_at m c t k j)) n
  · refine (bodyDot_at _ _ p j).trans ?_
    rw [Ref.dot_at]
    exact Finset.sum_congr rfl fun k _ => congrArg₂ (· * ·) (bodyRowsA_at m c t p k) ((cast_w _ k j).trans (wa_at m c t k j))
  · refine (bodyDot_at _ _ p j).trans ?_
    rw [Ref.dot_at]
    exact Finset.sum_congr rfl fun k _ => congrArg₂ (· * ·) (bodyRowsB_at m c t p k) ((cast_w _ k j).trans (wb_at m c t k j))

/-- and the merged rows modulated again. -/
theorem bodyHidden_at (p : Fin 256) (n : Fin 1024) :
    k0_pay1 (F := Ideal) (mergedOut (iblk m c 0 t) (iblk m c 1 t) (iblk m c 2 t) (iblk m c 3 t) (iblk m c 4 t) (iblk m c 5 t)
      (iblk m c 6 t) (iblk m c 9 t) (iblk m c 11 t) (iblk m c 12 t) (iblk m c 13 t) (iblk m c 14 t) (iblk m c 15 t) (iblk m c 16 t))
      (k0_pay24 (iblk m c 10 t)) (k0_pay25 (iblk m c 8 t)) (iblk m c 7 t) (ix2 p n) = hiddenV m c (ix3 (bOf t) (iOf t p) n) := by
  refine (hidden_at _ _ _ _ p n).trans ?_
  unfold hiddenV
  rw [Ref.hidden_at]
  exact modAt_congr (bodyMerged_at m c t p) (g2_at m c t) (sc2_at m c t) (sh2_at m c t) n

theorem final17 : (dats m 0 c).arrAt 17 (cfgs 0).N = Ref.flat (mergedV m c) := by
  refine (dats m 0 c).arrAt_eq_of_covers 17 _ (by decide +kernel) fun t _ y => ?_
  blk_simp
  rw [after0_17, out17_eq]
  obtain ⟨p, n, rfl⟩ : ∃ (p : Fin 256) (n : Fin 1024), y = ix2 p n := ⟨y 0, y 1, eq_ix2 y⟩
  refine (bodyMerged_at m c t p n).trans ((Ref.flat_at _ _ _ _).symm.trans (congrArg (Ref.flat (mergedV m c)) ?_))
  have h := row_eq t p
  blk_ext [idx_out t]

theorem final18 : (dats m 0 c).arrAt 18 (cfgs 0).N = Ref.flat (hiddenV m c) := by
  refine (dats m 0 c).arrAt_eq_of_covers 18 _ (by decide +kernel) fun t _ y => ?_
  blk_simp
  rw [after0_18, out18_eq]
  obtain ⟨p, n, rfl⟩ : ∃ (p : Fin 256) (n : Fin 1024), y = ix2 p n := ⟨y 0, y 1, eq_ix2 y⟩
  refine (bodyHidden_at m c t p n).trans ((Ref.flat_at _ _ _ _).symm.trans (congrArg (Ref.flat (hiddenV m c)) ?_))
  have h := row_eq t p
  blk_ext [idx_out t]

end Cert.Post

end
-- ==== Proof.Post.Claims.lean ====
/- The claims of the gated merge: the frames and the equality of the two results. The kernel's program and the one over the
   extended reals have the same text, so one run gives both frames. -/
module

public import proofs.«01_k».proof.Defs
public import proofs.«01_k».proof.Proof.Gen.Kernel3
public import proofs.«01_k».proof.Proof.Post.Value
public import Idealize.ShloMosaic.Lib.Claim

@[expose] public section

set_option maxRecDepth 16384

noncomputable section

namespace Cert.Post

open Idealize.ShloMosaic Idealize.SL.Sem

set_option smartUnfolding false in
set_option maxHeartbeats 4000000 in
/-- The kernel as it is: the frame. -/
theorem frame_p : @Cert.quiescent_Kernel3 Cert.Kernel3.Gen.facts := fun m g _ =>
  (θ_run Cert.Kernel3Ideal.defs _ _).mono (fun _ h => h) (Cert.Kernel3Ideal.Gen.frame (F := Bits) m g)

/-- The kernel over the extended reals: the frame. -/
theorem frame_pi : @Cert.quiescent_Kernel3Ideal Cert.Kernel3Ideal.Gen.facts := fun m g _ => Cert.Kernel3Ideal.Gen.frame m g

/-- The reference: the frame. It declares no semaphore. -/
theorem frame_ri : @Cert.quiescent_Reference3Ideal Cert.Reference3Ideal.Gen.facts := fun m g _ =>
  (θ_run Cert.Reference3Ideal.defs _ _).mono
    (fun r h => ⟨fun c => (h c).2.2, sem_eq_zero_of_no_sems (by decide) r.2⟩)
    (Cert.Reference3Ideal.Value.run (F := Ideal) m g)

/-- No operation was replaced. -/
theorem preserves : Cert.preserves_Kernel3_Kernel3Ideal := trivial

/-- The two programs end with the same two arrays. -/
theorem algebraic : @Cert.algebraic_Kernel3Ideal_Reference3Ideal Cert.Kernel3Ideal.Gen.facts Cert.Reference3Ideal.Gen.facts := by
  intro m g m' g' hpre hagree
  have hm : ∀ c, Ref.mergedOf m' c = mergedV m c := fun c => by
    obtain ⟨e0, e1, e2, e3, e4, e5, e6, -, -, e9, -, e11, e12, e13, e14, e15, e16⟩ := hagree c
    unfold Ref.mergedOf mergedV gatesV rowsAV rowsBV
    rw [e0, e1, e2, e3, e4, e5, e6, e9, e11, e12, e13, e14, e15, e16]
  have hh : ∀ c, Ref.hiddenOf m' c = hiddenV m c := fun c => by
    obtain ⟨-, -, -, -, -, -, -, e7, e8, -, e10, -⟩ := hagree c
    unfold Ref.hiddenOf hiddenV
    rw [hm, e7, e8, e10]
  refine ⟨fun c => Ref.flat (mergedV m c), fun c => Ref.flat (hiddenV m c), ?_, ?_⟩
  · refine (θ_run Cert.Kernel3Ideal.defs _ _).mono (fun r h c => ?_) (Cert.Kernel3Ideal.Value.run_blocks m g)
    obtain ⟨h0, h1, ha⟩ := h c
    exact ⟨h0.trans (final17 m c), h1.trans (final18 m c), ha⟩
  · refine (θ_run Cert.Reference3Ideal.defs _ _).mono (fun r h c => ?_) (Cert.Reference3Ideal.Value.run (F := Ideal) m' g')
    obtain ⟨h0, h1, ha⟩ := h c
    have k0 := h0.trans (Ref.merged_eq m' c)
    have k1 := h1.trans (Ref.hidden_eq m' c)
    rw [hm] at k0
    rw [hh] at k1
    exact ⟨k0, k1, ha⟩

end Cert.Post

end
-- ==== Proof.lean ====
/- Every claim of `Cert.Claim`, from the `Claims` modules of proof/Proof/, proof/Proof/Proj/ and proof/Proof/Post/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Claims
public import proofs.«01_k».proof.Proof.Proj.Claims
public import proofs.«01_k».proof.Proof.Post.Claims

@[expose] public section

noncomputable section

namespace Cert.Proof

open Cert.Attn

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, finiteFacts, Cert.Proj.finite2Facts,
    frame_p, frame_pi, frame_pi_finite, frame_ri, frame_ri_finite,
    Cert.Proj.frame_p, Cert.Proj.frame_pi, Cert.Proj.frame_pi_finite, Cert.Proj.frame_ri, Cert.Proj.frame_ri_finite,
    Cert.Post.frame_p, Cert.Post.frame_pi, Cert.Post.frame_ri,
    preserves, algebraic, Cert.Proj.preserves, Cert.Proj.algebraic, Cert.Post.preserves, Cert.Post.algebraic⟩

end Cert.Proof

end
